-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  IdealRules.named_const.Statement Cert.KernelIdeal.κ "scale" .f32 0x3DB8AA3B#32 (((Real.log 2)⁻¹ * (1 / 16) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  IdealRules.named_const.Statement Cert.Kernel2Ideal.κ "qscale" .f32 0x3E38AA3B#32 (((Real.log 2)⁻¹ * (1 / 8) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)) (v6 : (c : Dev Cert.Kernel2Ideal.nD) → Buf (Elt Ideal) ((c.tc : Thread Cert.Kernel2Ideal.nD Cert.Kernel2Ideal.τ).loc Cert.Kernel2Ideal.main_v23_6)) (v7 : (c : Dev Cert.Kernel2Ideal.nD) → Buf (Elt Ideal) ((c.tc : Thread Cert.Kernel2Ideal.nD Cert.Kernel2Ideal.τ).loc Cert.Kernel2Ideal.main_v23_7)) (v8 : (c : Dev Cert.Kernel2Ideal.nD) → Buf (Elt Ideal) ((c.tc : Thread Cert.Kernel2Ideal.nD Cert.Kernel2Ideal.τ).loc Cert.Kernel2Ideal.main_v23_8)) (v9 : (c : Dev Cert.Kernel2Ideal.nD) → Buf (Elt Ideal) ((c.tc : Thread Cert.Kernel2Ideal.nD Cert.Kernel2Ideal.τ).loc Cert.Kernel2Ideal.main_v23_9)) (v10 : (c : Dev Cert.Kernel2Ideal.nD) → Buf (Elt Ideal) ((c.tc : Thread Cert.Kernel2Ideal.nD Cert.Kernel2Ideal.τ).loc Cert.Kernel2Ideal.main_v23_10)) (v11 : (c : Dev Cert.Kernel2Ideal.nD) → Buf (Elt Ideal) ((c.tc : Thread Cert.Kernel2Ideal.nD Cert.Kernel2Ideal.τ).loc Cert.Kernel2Ideal.main_v23_11)) (v12 : (c : Dev Cert.Kernel2Ideal.nD) → Buf (Elt Ideal) ((c.tc : Thread Cert.Kernel2Ideal.nD Cert.Kernel2Ideal.τ).loc Cert.Kernel2Ideal.main_v23_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_v23_6) = v6 c
          ∧ r.2.mem ((c.tc : Thread Cert.Kernel2Ideal.nD Cert.Kernel2Ideal.τ).loc Cert.Kernel2Ideal.main_v23_7) = v7 c
          ∧ r.2.mem ((c.tc : Thread Cert.Kernel2Ideal.nD Cert.Kernel2Ideal.τ).loc Cert.Kernel2Ideal.main_v23_8) = v8 c
          ∧ r.2.mem ((c.tc : Thread Cert.Kernel2Ideal.nD Cert.Kernel2Ideal.τ).loc Cert.Kernel2Ideal.main_v23_9) = v9 c
          ∧ r.2.mem ((c.tc : Thread Cert.Kernel2Ideal.nD Cert.Kernel2Ideal.τ).loc Cert.Kernel2Ideal.main_v23_10) = v10 c
          ∧ r.2.mem ((c.tc : Thread Cert.Kernel2Ideal.nD Cert.Kernel2Ideal.τ).loc Cert.Kernel2Ideal.main_v23_11) = v11 c
          ∧ r.2.mem ((c.tc : Thread Cert.Kernel2Ideal.nD Cert.Kernel2Ideal.τ).loc Cert.Kernel2Ideal.main_v23_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_v48) = v4 c
          ∧ r.2.mem ((c.tc : Thread Cert.Reference2Ideal.nD Cert.Reference2Ideal.τ).loc Cert.Reference2Ideal.main_v50) = v5 c
          ∧ r.2.mem ((c.tc : Thread Cert.Reference2Ideal.nD Cert.Reference2Ideal.τ).loc Cert.Reference2Ideal.main_v51) = v6 c
          ∧ r.2.mem ((c.tc : Thread Cert.Reference2Ideal.nD Cert.Reference2Ideal.τ).loc Cert.Reference2Ideal.main_v53) = v7 c
          ∧ r.2.mem ((c.tc : Thread Cert.Reference2Ideal.nD Cert.Reference2Ideal.τ).loc Cert.Reference2Ideal.main_v55) = v8 c
          ∧ r.2.mem ((c.tc : Thread Cert.Reference2Ideal.nD Cert.Reference2Ideal.τ).loc Cert.Reference2Ideal.main_v57) = v9 c
          ∧ r.2.mem ((c.tc : Thread Cert.Reference2Ideal.nD Cert.Reference2Ideal.τ).loc Cert.Reference2Ideal.main_v59) = v10 c
          ∧ r.2.mem ((c.tc : Thread Cert.Reference2Ideal.nD Cert.Reference2Ideal.τ).loc Cert.Reference2Ideal.main_v61) = v11 c
          ∧ r.2.mem ((c.tc : Thread Cert.Reference2Ideal.nD Cert.Reference2Ideal.τ).loc Cert.Reference2Ideal.main_v63) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x2048x1024 : Shape := ⟨3, ![16, 2048, 1024]⟩
abbrev S16x256x1024 : Shape := ⟨3, ![16, 256, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x1024x4096 : Shape := ⟨3, ![1, 1024, 4096]⟩
abbrev S1x4096x1024 : Shape := ⟨3, ![1, 4096, 1024]⟩
abbrev S1024 : Shape := ⟨1, ![1024]⟩
abbrev S32768x1024 : Shape := ⟨2, ![32768, 1024]⟩
abbrev S1024x1024 : Shape := ⟨2, ![1024, 1024]⟩
abbrev S1024x2048 : Shape := ⟨2, ![1024, 2048]⟩
abbrev S1024x4096 : Shape := ⟨2, ![1024, 4096]⟩
abbrev S4096x1024 : Shape := ⟨2, ![4096, 1024]⟩
abbrev S2x256x1024 : Shape := ⟨3, ![2, 256, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S1x256x1024 : Shape := ⟨3, ![1, 256, 1024]⟩
abbrev S512x512 : Shape := ⟨2, ![512, 512]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 37
  | .vmem => 28
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S32768x512, .bf16⟩
  | .hbm, ⟨3, _⟩ => ⟨S32768x512, .bf16⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x2048, .f32⟩
  | .hbm, ⟨9, _⟩ => ⟨S1x1024x1024, .f32⟩
  | .hbm, ⟨10, _⟩ => ⟨S1x1024, .f32⟩
  | .hbm, ⟨11, _⟩ => ⟨S1x1024x4096, .f32⟩
  | .hbm, ⟨12, _⟩ => ⟨S1x4096x1024, .f32⟩
  | .hbm, ⟨13, _⟩ => ⟨S1024, .f32⟩
  | .hbm, ⟨14, _⟩ => ⟨S32768x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x2048, .f32⟩
  | .hbm, ⟨20, _⟩ => ⟨S1024x2048, .bf16⟩
  | .hbm, ⟨21, _⟩ => ⟨S1024x1024, .f32⟩
  | .hbm, ⟨22, _⟩ => ⟨S1024x1024, .bf16⟩
  | .hbm, ⟨23, _⟩ => ⟨S1024x4096, .f32⟩
  | .hbm, ⟨24, _⟩ => ⟨S1024x4096, .bf16⟩
  | .hbm, ⟨25, _⟩ => ⟨S4096x1024, .f32⟩
  | .hbm, ⟨26, _⟩ => ⟨S4096x1024, .bf16⟩
  | .hbm, ⟨27, _⟩ => ⟨S1024, .f32⟩
  | .hbm, ⟨28, _⟩ => ⟨S1x1024, .f32⟩
  | .hbm, ⟨29, _⟩ => ⟨S16x256x1024, .bf16⟩
  | .hbm, ⟨30, _⟩ => ⟨S16x256x1024, .bf16⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S32768x1024, .f32⟩
  | .local _ .vmem, ⟨0, _⟩ => ⟨S2x256x1024, .f32⟩
  | .local _ .vmem, ⟨1, _⟩ => ⟨S2x256x1024, .f32⟩
  | .local _ .vmem, ⟨2, _⟩ => ⟨S1x1024, .f32⟩
  | .local _ .vmem, ⟨3, _⟩ => ⟨S1024x2048, .bf16⟩
  | .local _ .vmem, ⟨4, _⟩ => ⟨S2x256x1024, .bf16⟩
  | .local _ .vmem, ⟨5, _⟩ => ⟨S2x256x1024, .bf16⟩
  | .local _ .vmem, ⟨6, _⟩ => ⟨S2x256x1024, .bf16⟩
  | .local _ .vmem, ⟨7, _⟩ => ⟨S2x256x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1024x1024, .bf16⟩
  | .local _ .vmem, ⟨22, _⟩ => ⟨S1x1024, .f32⟩
  | .local _ .vmem, ⟨23, _⟩ => ⟨S1024x4096, .bf16⟩
  | .local _ .vmem, ⟨24, _⟩ => ⟨S4096x1024, .bf16⟩
  | .local _ .vmem, ⟨25, _⟩ => ⟨S1x1024, .f32⟩
  | .local _ .vmem, ⟨26, _⟩ => ⟨S1024x1024, .f32⟩
  | .local _ .vmem, ⟨27, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg13_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_7 (i : grid1.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1024x4096 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4096x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1024x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== KernelIdeal.lean ====
variable {F : FTy → Type} [FloatOps F] [Named F]
def κ : String → Option EReal := fun
  | "scale" => some (((Real.log 2)⁻¹ * (1 / 16) : ℝ) : EReal)
  | _ => none
-- ==== ReferenceIdeal.lean ====
abbrev S16x2048x1024 : Shape := ⟨3, ![16, 2048, 1024]⟩
abbrev S16x256x1024 : Shape := ⟨3, ![16, 256, 1024]⟩
abbrev S32768x512 : Shape := ⟨2, ![32768, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x1024x4096 : Shape := ⟨3, ![1, 1024, 4096]⟩
abbrev S1x4096x1024 : Shape := ⟨3, ![1, 4096, 1024]⟩
abbrev S1024 : Shape := ⟨1, ![1024]⟩
abbrev S16x2048x512 : Shape := ⟨3, ![16, 2048, 512]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x256 : Shape := ⟨2, ![16, 256]⟩
abbrev S16x256x1 : Shape := ⟨3, ![16, 256, 1]⟩
abbrev S16x2048x4x256 : Shape := ⟨4, ![16, 2048, 4, 256]⟩
abbrev S1024x2048 : Shape := ⟨2, ![1024, 2048]⟩
abbrev S16x256x2048 : Shape := ⟨3, ![16, 256, 2048]⟩
abbrev S16x256x4x256 : Shape := ⟨4, ![16, 256, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩
abbrev S1024x4096 : Shape := ⟨2, ![1024, 4096]⟩
abbrev S16x2048x4096 : Shape := ⟨3, ![16, 2048, 4096]⟩
abbrev S4096x1024 : Shape := ⟨2, ![4096, 1024]⟩
abbrev S32768x1024 : Shape := ⟨2, ![32768, 1024]⟩

abbrev nBuf : Space → Nat
  | .hbm => 132
  | .vmem => 0
  | .smem => 0
  | _ => 0

abbrev hbmTy0_0 (i : Nat) : BufTy := match i % 128 with
  | 0 => ⟨S16x2048x1024, .f32⟩
  | 1 => ⟨S16x256x1024, .f32⟩
  | 2 => ⟨S32768x512, .bf16⟩
  | 3 => ⟨S32768x512, .bf16⟩
  | 4 => ⟨S1x1024x1024, .f32⟩
  | 5 => ⟨S1x1024, .f32⟩
  | 6 => ⟨S1x1024, .f32⟩
  | 7 => ⟨S1x1024x1024, .f32⟩
  | 8 => ⟨S1x1024x2048, .f32⟩
  | 9 => ⟨S1x1024x1024, .f32⟩
  | 10 => ⟨S1x1024, .f32⟩
  | 11 => ⟨S1x1024x4096, .f32⟩
  | 12 => ⟨S1x4096x1024, .f32⟩
  | 13 => ⟨S1024, .f32⟩
  | 14 => ⟨S32768x512, .f32⟩
  | 15 => ⟨S16x2048x512, .f32⟩
  | 16 => ⟨S32768x512, .f32⟩
  | 17 => ⟨S16x2048x512, .f32⟩
  | 18 => ⟨S16x2048x1024, .f32⟩
  | 19 => ⟨S1024x1024, .f32⟩
  | 20 => ⟨S16x2048x1024, .f32⟩
  | 21 => ⟨S16x2048x1024, .f32⟩
  | 22 => ⟨S1024, .f32⟩
  | 23 => ⟨S16x2048x1024, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S_, .f32⟩
  | 31 => ⟨S16x2048x1, .f32⟩
  | 32 => ⟨S16x2048x1, .f32⟩
  | 33 => ⟨S16x2048x1, .f32⟩
  | 34 => ⟨S16x2048x1024, .f32⟩
  | 35 => ⟨S16x2048x1024, .f32⟩
  | 36 => ⟨S1x1x1024, .f32⟩
  | 37 => ⟨S16x2048x1024, .f32⟩
  | 38 => ⟨S16x2048x1024, .f32⟩
  | 39 => ⟨S1024, .f32⟩
  | 40 => ⟨S16x256x1024, .f32⟩
  | 41 => ⟨S_, .f32⟩
  | 42 => ⟨S16x256, .f32⟩
  | 43 => ⟨S16x256x1, .f32⟩
  | 44 => ⟨S_, .f32⟩
  | 45 => ⟨S16x256x1, .f32⟩
  | 46 => ⟨S16x256x1, .f32⟩
  | 47 => ⟨S_, .f32⟩
  | 48 => ⟨S16x256x1, .f32⟩
  | 49 => ⟨S16x256x1, .f32⟩
  | 50 => ⟨S16x256x1, .f32⟩
  | 51 => ⟨S16x256x1024, .f32⟩
  | 52 => ⟨S16x256x1024, .f32⟩
  | 53 => ⟨S1x1x1024, .f32⟩
  | 54 => ⟨S16x256x1024, .f32⟩
  | 55 => ⟨S16x256x1024, .f32⟩
  | 56 => ⟨S1024x1024, .f32⟩
  | 57 => ⟨S16x2048x1024, .f32⟩
  | 58 => ⟨S16x2048x4x256, .f32⟩
  | 59 => ⟨S1024x2048, .f32⟩
  | 60 => ⟨S16x256x2048, .f32⟩
  | 61 => ⟨S16x256x1024, .f32⟩
  | 62 => ⟨S16x256x1024, .f32⟩
  | 63 => ⟨S16x256x4x256, .f32⟩
  | 64 => ⟨S16x256x4x256, .f32⟩
  | 65 => ⟨S16x4x2048x256, .f32⟩
  | 66 => ⟨S_, .f32⟩
  | 67 => ⟨S16x4x2048x256, .f32⟩
  | 68 => ⟨S16x4x2048x256, .f32⟩
  | 69 => ⟨S_, .f32⟩
  | 70 => ⟨S16x4x2048, .f32⟩
  | 71 => ⟨S_, .f32⟩
  | 72 => ⟨S16x4x2048, .f32⟩
  | 73 => ⟨S16x4x2048, .f32⟩
  | 74 => ⟨S16x4x2048x1, .f32⟩
  | 75 => ⟨S16x4x2048x256, .f32⟩
  | 76 => ⟨S16x4x2048x256, .f32⟩
  | 77 => ⟨S16x4x2048x256, .f32⟩
  | 78 => ⟨S_, .f32⟩
  | 79 => ⟨S16x4x2048, .f32⟩
  | 80 => ⟨S16x4x2048x1, .f32⟩
  | 81 => ⟨S16x4x2048x256, .f32⟩
  | 82 => ⟨S16x4x2048x256, .f32⟩
  | 83 => ⟨S16x4x256x2048, .f32⟩
  | 84 => ⟨S16x2048x4x256, .f32⟩
  | 85 => ⟨S16x2048x1024, .f32⟩
  | 86 => ⟨S1024x1024, .f32⟩
  | 87 => ⟨S16x2048x1024, .f32⟩
  | 88 => ⟨S16x2048x1024, .f32⟩
  | 89 => ⟨S1024, .f32⟩
  | 90 => ⟨S16x2048x1024, .f32⟩
  | 91 => ⟨S_, .f32⟩
  | 92 => ⟨S16x2048, .f32⟩
  | 93 => ⟨S16x2048x1, .f32⟩
  | 94 => ⟨S_, .f32⟩
  | 95 => ⟨S16x2048x1, .f32⟩
  | 96 => ⟨S16x2048x1, .f32⟩
  | 97 => ⟨S_, .f32⟩
  | 98 => ⟨S16x2048x1, .f32⟩
  | 99 => ⟨S16x2048x1, .f32⟩
  | 100 => ⟨S16x2048x1, .f32⟩
  | 101 => ⟨S16x2048x1024, .f32⟩
  | 102 => ⟨S16x2048x1024, .f32⟩
  | 103 => ⟨S1x1x1024, .f32⟩
  | 104 => ⟨S16x2048x1024, .f32⟩
  | 105 => ⟨S16x2048x1024, .f32⟩
  | 106 => ⟨S1024x4096, .f32⟩
  | 107 => ⟨S16x2048x4096, .f32⟩
  | 108 => ⟨S_, .f32⟩
  | 109 => ⟨S16x2048x4096, .f32⟩
  | 110 => ⟨S16x2048x4096, .f32⟩
  | 111 => ⟨S16x2048x4096, .f32⟩
  | 112 => ⟨S4096x1024, .f32⟩
  | 113 => ⟨S16x2048x1024, .f32⟩
  | 114 => ⟨S16x2048x1024, .f32⟩
  | 115 => ⟨S16x2048x1024, .f32⟩
  | 116 => ⟨S_, .f32⟩
  | 117 => ⟨S16x2048, .f32⟩
  | 118 => ⟨S16x2048x1, .f32⟩
  | 119 => ⟨S_, .f32⟩
  | 120 => ⟨S16x2048x1, .f32⟩
  | 121 => ⟨S16x2048x1, .f32⟩
  | 122 => ⟨S_, .f32⟩
  | 123 => ⟨S16x2048x1, .f32⟩
  | 124 => ⟨S16x2048x1, .f32⟩
  | 125 => ⟨S16x2048x1, .f32⟩
  | 126 => ⟨S16x2048x1024, .f32⟩
  | 127 => ⟨S16x2048x1024, .f32⟩
  | _ => ⟨S16x2048x1024, .f32⟩

abbrev hbmTy0_1 (i : Nat) : BufTy := match i % 128 with
  | 0 => ⟨S1x1x1024, .f32⟩
  | 1 => ⟨S16x2048x1024, .f32⟩
  | 2 => ⟨S16x2048x1024, .f32⟩
  | 3 => ⟨S32768x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call0_cst : Ref sig .tc := ⟨.hbm, 108, rfl⟩
abbrev main_call0_v0 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_12 : Ref sig .tc := ⟨.hbm, 116, rfl⟩
abbrev main_v87 : Ref sig .tc := ⟨.hbm, 117, rfl⟩
abbrev main_v88 : Ref sig .tc := ⟨.hbm, 118, rfl⟩
abbrev main_cst_13 : Ref sig .tc := ⟨.hbm, 119, rfl⟩
abbrev main_v89 : Ref sig .tc := ⟨.hbm, 120, rfl⟩
abbrev main_v90 : Ref sig .tc := ⟨.hbm, 121, rfl⟩
abbrev main_cst_14 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]
-- ==== Kernel2.lean ====
abbrev S16x2048x1024 : Shape := ⟨3, ![16, 2048, 1024]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S1x1024x1024 : Shape := ⟨3, ![1, 1024, 1024]⟩
abbrev S1x1024x2048 : Shape := ⟨3, ![1, 1024, 2048]⟩
abbrev S1x1024x4096 : Shape := ⟨3, ![1, 1024, 4096]⟩
abbrev S1x4096x1024 : Shape := ⟨3, ![1, 4096, 1024]⟩
abbrev S32768x1024 : Shape := ⟨2, ![32768, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S16x256 : Shape := ⟨2, ![16, 256]⟩
abbrev S128x256 : Shape := ⟨2, ![128, 256]⟩
abbrev S1024x1024 : Shape := ⟨2, ![1024, 1024]⟩
abbrev S1024x2048 : Shape := ⟨2, ![1024, 2048]⟩
abbrev S1024x4096 : Shape := ⟨2, ![1024, 4096]⟩
abbrev S4096x1024 : Shape := ⟨2, ![4096, 1024]⟩
abbrev S1024 : Shape := ⟨1, ![1024]⟩
abbrev S1024x3088 : Shape := ⟨2, ![1024, 3088]⟩
abbrev S1x1024x512 : Shape := ⟨3, ![1, 1024, 512]⟩
abbrev S1024x512 : Shape := ⟨2, ![1024, 512]⟩
abbrev S256 : Shape := ⟨1, ![256]⟩
abbrev S512x32768 : Shape := ⟨2, ![512, 32768]⟩
abbrev S32768x256 : Shape := ⟨2, ![32768, 256]⟩
abbrev S32768x512 : Shape := ⟨2, ![32768, 512]⟩
abbrev S32x1024 : Shape := ⟨2, ![32, 1024]⟩
abbrev S32x2048 : Shape := ⟨2, ![32, 2048]⟩
abbrev S32x4096 : Shape := ⟨2, ![32, 4096]⟩
abbrev S128x1024 : Shape := ⟨2, ![128, 1024]⟩
abbrev S512x1024 : Shape := ⟨2, ![512, 1024]⟩
abbrev S1024x256 : Shape := ⟨2, ![1024, 256]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S512x256 : Shape := ⟨2, ![512, 256]⟩

abbrev nBuf : Space → Nat
  | .hbm => 51
  | .vmem => 46
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3088, .f32⟩
  | .hbm, ⟨3, _⟩ => ⟨S1x16x256, .f32⟩
  | .hbm, ⟨4, _⟩ => ⟨S1x256, .f32⟩
  | .hbm, ⟨5, _⟩ => ⟨S1x1024x1024, .f32⟩
  | .hbm, ⟨6, _⟩ => ⟨S1x1024x1024, .f32⟩
  | .hbm, ⟨7, _⟩ => ⟨S1x1024x2048, .f32⟩
  | .hbm, ⟨8, _⟩ => ⟨S1x1024x1024, .f32⟩
  | .hbm, ⟨9, _⟩ => ⟨S1x1024x4096, .f32⟩
  | .hbm, ⟨10, _⟩ => ⟨S1x4096x1024, .f32⟩
  | .hbm, ⟨11, _⟩ => ⟨S32768x1024, .f32⟩
  | .hbm, ⟨12, _⟩ => ⟨S1x1024x16, .f32⟩
  | .hbm, ⟨13, _⟩ => ⟨S1024x16, .f32⟩
  | .hbm, ⟨14, _⟩ => ⟨S1024x16, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S16x256, .f32⟩
  | .hbm, ⟨19, _⟩ => ⟨S16x256, .bf16⟩
  | .hbm, ⟨20, _⟩ => ⟨S_, .i32⟩
  | .hbm, ⟨21, _⟩ => ⟨S_, .bf16⟩
  | .hbm, ⟨22, _⟩ => ⟨S128x256, .bf16⟩
  | .hbm, ⟨23, _⟩ => ⟨S1024x1024, .f32⟩
  | .hbm, ⟨24, _⟩ => ⟨S1024x1024, .f32⟩
  | .hbm, ⟨25, _⟩ => ⟨S1024x2048, .f32⟩
  | .hbm, ⟨26, _⟩ => ⟨S1024x1024, .f32⟩
  | .hbm, ⟨27, _⟩ => ⟨S1024x4096, .f32⟩
  | .hbm, ⟨28, _⟩ => ⟨S4096x1024, .f32⟩
  | .hbm, ⟨29, _⟩ => ⟨S1024, .f32⟩
  | .hbm, ⟨30, _⟩ => ⟨S1x1024, .f32⟩
  | .hbm, ⟨31, _⟩ => ⟨S1024x3088, .f32⟩
  | .hbm, ⟨32, _⟩ => ⟨S1024x3088, .bf16⟩
  | .hbm, ⟨33, _⟩ => ⟨S1x1024x512, .f32⟩
  | .hbm, ⟨34, _⟩ => ⟨S1024x512, .f32⟩
  | .hbm, ⟨35, _⟩ => ⟨S1024x512, .bf16⟩
  | .hbm, ⟨36, _⟩ => ⟨S256, .f32⟩
  | .hbm, ⟨37, _⟩ => ⟨S1x256, .f32⟩
  | .hbm, ⟨38, _⟩ => ⟨S32768x1024, .bf16⟩
  | .hbm, ⟨39, _⟩ => ⟨S512x32768, .bf16⟩
  | .hbm, ⟨40, _⟩ => ⟨S32768x256, .f32⟩
  | .hbm, ⟨41, _⟩ => ⟨S32768x256, .f32⟩
  | .hbm, ⟨42, _⟩ => ⟨S32768x256, .f32⟩
  | .hbm, ⟨43, _⟩ => ⟨S32768x512, .bf16⟩
  | .hbm, ⟨44, _⟩ => ⟨S32768x512, .f32⟩
  | .hbm, ⟨45, _⟩ => ⟨S1024x1024, .bf16⟩
  | .hbm, ⟨46, _⟩ => ⟨S1024x1024, .bf16⟩
  | .hbm, ⟨47, _⟩ => ⟨S1024x2048, .bf16⟩
  | .hbm, ⟨48, _⟩ => ⟨S1024x1024, .bf16⟩
  | .hbm, ⟨49, _⟩ => ⟨S1024x4096, .bf16⟩
  | .hbm, ⟨50, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3088, .bf16⟩
  | .local _ .vmem, ⟨4, _⟩ => ⟨S1024x512, .bf16⟩
  | .local _ .vmem, ⟨5, _⟩ => ⟨S1024x128, .bf16⟩
  | .local _ .vmem, ⟨6, _⟩ => ⟨S128x256, .bf16⟩
  | .local _ .vmem, ⟨7, _⟩ => ⟨S1x256, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x2048, .f32⟩
  | .local _ .vmem, ⟨13, _⟩ => ⟨S32x2048, .f32⟩
  | .local _ .vmem, ⟨14, _⟩ => ⟨S32x1024, .f32⟩
  | .local _ .vmem, ⟨15, _⟩ => ⟨S32x1024, .f32⟩
  | .local _ .vmem, ⟨16, _⟩ => ⟨S32x4096, .f32⟩
  | .local _ .vmem, ⟨17, _⟩ => ⟨S32x4096, .f32⟩
  | .local _ .vmem, ⟨18, _⟩ => ⟨S128x1024, .f32⟩
  | .local _ .vmem, ⟨19, _⟩ => ⟨S128x1024, .f32⟩
  | .local _ .vmem, ⟨20, _⟩ => ⟨S1024x1024, .bf16⟩
  | .local _ .vmem, ⟨21, _⟩ => ⟨S1024x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x512, .bf16⟩
  | .local _ .vmem, ⟨31, _⟩ => ⟨S1024x512, .bf16⟩
  | .local _ .vmem, ⟨32, _⟩ => ⟨S1024x512, .f32⟩
  | .local _ .vmem, ⟨33, _⟩ => ⟨S1024x512, .f32⟩
  | .local _ .vmem, ⟨34, _⟩ => ⟨S32x1024, .bf16⟩
  | .local _ .vmem, ⟨35, _⟩ => ⟨S32x1024, .bf16⟩
  | .local _ .vmem, ⟨36, _⟩ => ⟨S32x1024, .bf16⟩
  | .local _ .vmem, ⟨37, _⟩ => ⟨S32x1024, .bf16⟩
  | .local _ .vmem, ⟨38, _⟩ => ⟨S32x2048, .bf16⟩
  | .local _ .vmem, ⟨39, _⟩ => ⟨S32x2048, .bf16⟩
  | .local _ .vmem, ⟨40, _⟩ => ⟨S32x1024, .bf16⟩
  | .local _ .vmem, ⟨41, _⟩ => ⟨S32x1024, .bf16⟩
  | .local _ .vmem, ⟨42, _⟩ => ⟨S32x4096, .bf16⟩
  | .local _ .vmem, ⟨43, _⟩ => ⟨S32x4096, .bf16⟩
  | .local _ .vmem, ⟨44, _⟩ => ⟨S128x1024, .bf16⟩
  | .local _ .vmem, ⟨45, _⟩ => ⟨S128x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_call1_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev main_v23_4 : Ref sig .tc := ⟨.hbm, 42, rfl⟩
abbrev main_v23_5 : Ref sig .tc := ⟨.hbm, 43, rfl⟩
abbrev main_v23_6 : Ref sig .tc := ⟨.hbm, 44, rfl⟩
abbrev main_v23_7 : Ref sig .tc := ⟨.hbm, 45, rfl⟩
abbrev main_v23_8 : Ref sig .tc := ⟨.hbm, 46, rfl⟩
abbrev main_v23_9 : Ref sig .tc := ⟨.hbm, 47, rfl⟩
abbrev main_v23_10 : Ref sig .tc := ⟨.hbm, 48, rfl⟩
abbrev main_v23_11 : Ref sig .tc := ⟨.hbm, 49, rfl⟩
abbrev main_v23_12 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3088 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S32x4096 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S128x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Kernel2Ideal.lean ====
variable {F : FTy → Type} [FloatOps F] [Named F]
def κ : String → Option EReal := fun
  | "qscale" => some (((Real.log 2)⁻¹ * (1 / 8) : ℝ) : EReal)
  | _ => none
-- ==== Reference2Ideal.lean ====
abbrev S16x2048x1024 : Shape := ⟨3, ![16, 2048, 1024]⟩
abbrev S1x1024 : Shape := ⟨2, ![1, 1024]⟩
abbrev S1x1024x3088 : Shape := ⟨3, ![1, 1024, 3088]⟩
abbrev S1x16x256 : Shape := ⟨3, ![1, 16, 256]⟩
abbrev S1x256 : Shape := ⟨2, ![1, 256]⟩
abbrev S1x1024x1024 : Shape := ⟨3, ![1, 1024, 1024]⟩
abbrev S1x1024x2048 : Shape := ⟨3, ![1, 1024, 2048]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3088 : Shape := ⟨2, ![1024, 3088]⟩
abbrev S16x2048x3088 : Shape := ⟨3, ![16, 2048, 3088]⟩
abbrev S16x2048x512 : Shape := ⟨3, ![16, 2048, 512]⟩
abbrev S16x2048x256 : Shape := ⟨3, ![16, 2048, 256]⟩
abbrev S16x2048x16 : Shape := ⟨3, ![16, 2048, 16]⟩
abbrev S16x256 : Shape := ⟨2, ![16, 256]⟩
abbrev S256 : Shape := ⟨1, ![256]⟩
abbrev S1x1x256 : Shape := ⟨3, ![1, 1, 256]⟩
abbrev S32768x1024 : Shape := ⟨2, ![32768, 1024]⟩
abbrev S32768x512 : Shape := ⟨2, ![32768, 512]⟩
abbrev S512x32768 : Shape := ⟨2, ![512, 32768]⟩
abbrev S32768x256 : Shape := ⟨2, ![32768, 256]⟩
abbrev S1024x1024 : Shape := ⟨2, ![1024, 1024]⟩
abbrev S1024x2048 : Shape := ⟨2, ![1024, 2048]⟩
abbrev S1024x4096 : Shape := ⟨2, ![1024, 4096]⟩
abbrev S4096x1024 : Shape := ⟨2, ![4096, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x3088, .f32⟩
  | .hbm, ⟨3, _⟩ => ⟨S1x16x256, .f32⟩
  | .hbm, ⟨4, _⟩ => ⟨S1x256, .f32⟩
  | .hbm, ⟨5, _⟩ => ⟨S1x1024x1024, .f32⟩
  | .hbm, ⟨6, _⟩ => ⟨S1x1024x1024, .f32⟩
  | .hbm, ⟨7, _⟩ => ⟨S1x1024x2048, .f32⟩
  | .hbm, ⟨8, _⟩ => ⟨S1x1024x1024, .f32⟩
  | .hbm, ⟨9, _⟩ => ⟨S1x1024x4096, .f32⟩
  | .hbm, ⟨10, _⟩ => ⟨S1x4096x1024, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S1024x3088, .f32⟩
  | .hbm, ⟨29, _⟩ => ⟨S16x2048x3088, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S16x2048x256, .f32⟩
  | .hbm, ⟨34, _⟩ => ⟨S16x2048x256, .f32⟩
  | .hbm, ⟨35, _⟩ => ⟨S16x2048x512, .f32⟩
  | .hbm, ⟨36, _⟩ => ⟨S16x2048x16, .f32⟩
  | .hbm, ⟨37, _⟩ => ⟨S16x2048x512, .f32⟩
  | .hbm, ⟨38, _⟩ => ⟨S16x256, .f32⟩
  | .hbm, ⟨39, _⟩ => ⟨S16x2048x256, .f32⟩
  | .hbm, ⟨40, _⟩ => ⟨S256, .f32⟩
  | .hbm, ⟨41, _⟩ => ⟨S1x1x256, .f32⟩
  | .hbm, ⟨42, _⟩ => ⟨S16x2048x256, .f32⟩
  | .hbm, ⟨43, _⟩ => ⟨S16x2048x256, .f32⟩
  | .hbm, ⟨44, _⟩ => ⟨S16x2048x256, .f32⟩
  | .hbm, ⟨45, _⟩ => ⟨S_, .f32⟩
  | .hbm, ⟨46, _⟩ => ⟨S16x2048x256, .f32⟩
  | .hbm, ⟨47, _⟩ => ⟨S16x2048x256, .f32⟩
  | .hbm, ⟨48, _⟩ => ⟨S16x2048x256, .f32⟩
  | .hbm, ⟨49, _⟩ => ⟨S16x2048x256, .f32⟩
  | .hbm, ⟨50, _⟩ => ⟨S16x2048x256, .i1⟩
  | .hbm, ⟨51, _⟩ => ⟨S16x2048x256, .f32⟩
  | .hbm, ⟨52, _⟩ => ⟨S16x2048x256, .f32⟩
  | .hbm, ⟨53, _⟩ => ⟨S16x2048x256, .f32⟩
  | .hbm, ⟨54, _⟩ => ⟨S16x2048x256, .f32⟩
  | .hbm, ⟨55, _⟩ => ⟨S16x2048x256, .f32⟩
  | .hbm, ⟨56, _⟩ => ⟨S16x2048x256, .f32⟩
  | .hbm, ⟨57, _⟩ => ⟨S16x2048x256, .f32⟩
  | .hbm, ⟨58, _⟩ => ⟨S16x2048x256, .f32⟩
  | .hbm, ⟨59, _⟩ => ⟨S16x2048x256, .f32⟩
  | .hbm, ⟨60, _⟩ => ⟨S_, .f32⟩
  | .hbm, ⟨61, _⟩ => ⟨S16x2048x256, .f32⟩
  | .hbm, ⟨62, _⟩ => ⟨S16x2048x256, .f32⟩
  | .hbm, ⟨63, _⟩ => ⟨S_, .f32⟩
  | .hbm, ⟨64, _⟩ => ⟨S16x2048x512, .f32⟩
  | .hbm, ⟨65, _⟩ => ⟨S16x2048x512, .f32⟩
  | .hbm, ⟨66, _⟩ => ⟨S_, .f32⟩
  | .hbm, ⟨67, _⟩ => ⟨S_, .f32⟩
  | .hbm, ⟨68, _⟩ => ⟨S16x2048x512, .f32⟩
  | .hbm, ⟨69, _⟩ => ⟨S16x2048x512, .f32⟩
  | .hbm, ⟨70, _⟩ => ⟨S_, .f32⟩
  | .hbm, ⟨71, _⟩ => ⟨S16x2048x256, .f32⟩
  | .hbm, ⟨72, _⟩ => ⟨S16x2048x256, .f32⟩
  | .hbm, ⟨73, _⟩ => ⟨S16x2048x1024, .f32⟩
  | .hbm, ⟨74, _⟩ => ⟨S32768x1024, .f32⟩
  | .hbm, ⟨75, _⟩ => ⟨S32768x1024, .bf16⟩
  | .hbm, ⟨76, _⟩ => ⟨S32768x512, .f32⟩
  | .hbm, ⟨77, _⟩ => ⟨S512x32768, .f32⟩
  | .hbm, ⟨78, _⟩ => ⟨S512x32768, .bf16⟩
  | .hbm, ⟨79, _⟩ => ⟨S32768x256, .f32⟩
  | .hbm, ⟨80, _⟩ => ⟨S32768x256, .f32⟩
  | .hbm, ⟨81, _⟩ => ⟨S32768x256, .f32⟩
  | .hbm, ⟨82, _⟩ => ⟨S32768x512, .f32⟩
  | .hbm, ⟨83, _⟩ => ⟨S32768x512, .bf16⟩
  | .hbm, ⟨84, _⟩ => ⟨S32768x512, .f32⟩
  | .hbm, ⟨85, _⟩ => ⟨S1024x1024, .f32⟩
  | .hbm, ⟨86, _⟩ => ⟨S1024x1024, .bf16⟩
  | .hbm, ⟨87, _⟩ => ⟨S1024x1024, .f32⟩
  | .hbm, ⟨88, _⟩ => ⟨S1024x1024, .bf16⟩
  | .hbm, ⟨89, _⟩ => ⟨S1024x2048, .f32⟩
  | .hbm, ⟨90, _⟩ => ⟨S1024x2048, .bf16⟩
  | .hbm, ⟨91, _⟩ => ⟨S1024x1024, .f32⟩
  | .hbm, ⟨92, _⟩ => ⟨S1024x1024, .bf16⟩
  | .hbm, ⟨93, _⟩ => ⟨S1024x4096, .f32⟩
  | .hbm, ⟨94, _⟩ => ⟨S1024x4096, .bf16⟩
  | .hbm, ⟨95, _⟩ => ⟨S4096x1024, .f32⟩
  | .hbm, ⟨96, _⟩ => ⟨S4096x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v30 : Ref sig .tc := ⟨.hbm, 59, rfl⟩
abbrev main_cst_2 : Ref sig .tc := ⟨.hbm, 60, rfl⟩
abbrev main_v31 : Ref sig .tc := ⟨.hbm, 61, rfl⟩
abbrev main_v32 : Ref sig .tc := ⟨.hbm, 62, rfl⟩
abbrev main_cst_3 : Ref sig .tc := ⟨.hbm, 63, rfl⟩
abbrev main_v33 : Ref sig .tc := ⟨.hbm, 64, rfl⟩
abbrev main_v34 : Ref sig .tc := ⟨.hbm, 65, rfl⟩
abbrev main_cst_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== Proof.Run.lean ====
/- UNTRUSTED — the kernel's run: every execution ends with the result array at what the second pipeline leaves, and the
   arguments as launched. The launch set-up is the frame's, with the result array read as well. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory, every execution ends, and every unscoped buffer of a final state holds the last boundary's contents. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.KernelIdeal.Run

end
-- ==== Proof.Rows.Spec.lean ====
/- UNTRUSTED — what the tail of the layer computes for ONE token, as functions of rows of extended reals: the
   normalisation by the root mean square, a row times a matrix, one head of the attention over the memory, the
   squared-ReLU feed-forward. The kernel's blocks and the reference's arrays are both read as these functions. -/
module

public import Idealize.ShloMosaic.PureOps.Ideal

@[expose] public section

noncomputable section

namespace Cert.Rows

open Idealize.ShloMosaic

/-- The reciprocal root of the mean square of a row of 1024, plus the small constant. -/
def inv (x : Fin 1024 → EReal) : EReal :=
  Ideal.rsqrt (Ideal.div (∑ k, x k * x k) (Ideal.ofBits .f32 0x44800000#32) + Ideal.ofBits .f32 0x358637BD#32)

/-- A row normalised by its root mean square and multiplied by a gain. -/
def rms (x g : Fin 1024 → EReal) (d : Fin 1024) : EReal := x d * inv x * g d

/-- A row times a matrix. -/
def lin {n m : Nat} (h : Fin n → EReal) (w : Fin n → Fin m → EReal) (j : Fin m) : EReal := ∑ k, h k * w k j

/-- The greatest of 256 scores (minus infinity if there were none). -/
def top (s : Fin 256 → EReal) : EReal := Finset.univ.fold max ⊥ s

/-- Softmax of a row of scores by the base-2 exponential, applied to a column of values: what the kernel computes. -/
def mix2 (s v : Fin 256 → EReal) : EReal :=
  ∑ k, Ideal.div (Ideal.exp2 (s k - top s)) (∑ l, Ideal.exp2 (s l - top s)) * v k

/-- Softmax of a row of scores by the exponential, applied to a column of values: what the reference computes. -/
def mix (s v : Fin 256 → EReal) : EReal :=
  ∑ k, Ideal.div (Ideal.exp (s k - top s)) (∑ l, Ideal.exp (s l - top s)) * v k

/-- Column `e` of head `h` among the 1024 columns. -/
def col (h : Fin 4) (e : Fin 256) : Fin 1024 := ⟨256 * h.val + e.val, by omega⟩

/-- The head that column `j` belongs to. -/
def headOf (j : Fin 1024) : Fin 4 := ⟨j.val / 256, by omega⟩

/-- The scores of one head of a query row against the 256 rows of keys. -/
def scores (q : Fin 1024 → EReal) (K : Fin 256 → Fin 1024 → EReal) (h : Fin 4) (k : Fin 256) : EReal :=
  ∑ e, q (col h e) * K k (col h e)

/-- The greater of a number and zero, squared. -/
def relu2 (z : EReal) : EReal := max z 0 * max z 0

/-- The row after the two halves of the mixed output are projected and added: the kernel's two products. -/
def mixedK (x : Fin 1024 → EReal) (a b : Fin 512 → EReal) (w : Fin 1024 → Fin 1024 → EReal) (j : Fin 1024) : EReal :=
  x j + (∑ k : Fin 512, a k * w ⟨k.val, by omega⟩ j) + ∑ k : Fin 512, b k * w ⟨512 + k.val, by omega⟩ j

/-- The same as one product of the joined row of 1024: the reference's. -/
def mixedR (x : Fin 1024 → EReal) (a b : Fin 512 → EReal) (w : Fin 1024 → Fin 1024 → EReal) (j : Fin 1024) : EReal :=
  x j + ∑ k : Fin 1024, (if h : k.val < 512 then a ⟨k.val, h⟩ else b ⟨k.val - 512, by omega⟩) * w k j

/-- The attention step of the kernel: queries scaled by `c`, base-2 softmax per head, projection, residual. -/
def attendK (c : EReal) (x g : Fin 1024 → EReal) (wq : Fin 1024 → Fin 1024 → EReal) (K V : Fin 256 → Fin 1024 → EReal)
    (wo : Fin 1024 → Fin 1024 → EReal) (j : Fin 1024) : EReal :=
  x j + lin (fun i => mix2 (scores (fun d => lin (rms x g) wq d * c) K (headOf i)) fun k => V k i) wo j

/-- The attention step of the reference: scores scaled by `c`, softmax per head, projection, residual. -/
def attendR (c : EReal) (x g : Fin 1024 → EReal) (wq : Fin 1024 → Fin 1024 → EReal) (K V : Fin 256 → Fin 1024 → EReal)
    (wo : Fin 1024 → Fin 1024 → EReal) (j : Fin 1024) : EReal :=
  x j + lin (fun i => mix (fun k => scores (lin (rms x g) wq) K (headOf i) k * c) fun k => V k i) wo j

/-- One slab of 1024 of the 4096 hidden units of the feed-forward step, starting at unit `o`. -/
def slab (h : Fin 1024 → EReal) (wu : Fin 1024 → Fin 4096 → EReal) (wd : Fin 4096 → Fin 1024 → EReal)
    (o : Nat) (ho : o + 1024 ≤ 4096) (j : Fin 1024) : EReal :=
  ∑ u : Fin 1024, relu2 (∑ k, h k * wu k ⟨o + u.val, by omega⟩) * wd ⟨o + u.val, by omega⟩ j

/-- The feed-forward step of the kernel: four slabs of hidden units added one after the other. -/
def feedK (x g : Fin 1024 → EReal) (wu : Fin 1024 → Fin 4096 → EReal) (wd : Fin 4096 → Fin 1024 → EReal) (j : Fin 1024) : EReal :=
  x j + slab (rms x g) wu wd 0 (by omega) j + slab (rms x g) wu wd 1024 (by omega) j
    + slab (rms x g) wu wd 2048 (by omega) j + slab (rms x g) wu wd 3072 (by omega) j

/-- The feed-forward step of the reference: one product over all 4096 hidden units. -/
def feedR (x g : Fin 1024 → EReal) (wu : Fin 1024 → Fin 4096 → EReal) (wd : Fin 4096 → Fin 1024 → EReal) (j : Fin 1024) : EReal :=
  x j + ∑ u : Fin 4096, relu2 (lin (rms x g) wu u) * wd u j

/-- One token through the kernel's tail: mixed output, attention over the memory, feed-forward, last normalisation. -/
def tailK (c : EReal) (x : Fin 1024 → EReal) (a b : Fin 512 → EReal) (w : Fin 1024 → Fin 1024 → EReal) (gx : Fin 1024 → EReal)
    (wq : Fin 1024 → Fin 1024 → EReal) (K V : Fin 256 → Fin 1024 → EReal) (wo : Fin 1024 → Fin 1024 → EReal) (gm : Fin 1024 → EReal)
    (wu : Fin 1024 → Fin 4096 → EReal) (wd : Fin 4096 → Fin 1024 → EReal) (gf : Fin 1024 → EReal) : Fin 1024 → EReal :=
  rms (feedK (attendK c (mixedK x a b w) gx wq K V wo) gm wu wd) gf

/-- One token through the reference's tail. -/
def tailR (c : EReal) (x : Fin 1024 → EReal) (a b : Fin 512 → EReal) (w : Fin 1024 → Fin 1024 → EReal) (gx : Fin 1024 → EReal)
    (wq : Fin 1024 → Fin 1024 → EReal) (K V : Fin 256 → Fin 1024 → EReal) (wo : Fin 1024 → Fin 1024 → EReal) (gm : Fin 1024 → EReal)
    (wu : Fin 1024 → Fin 4096 → EReal) (wd : Fin 4096 → Fin 1024 → EReal) (gf : Fin 1024 → EReal) : Fin 1024 → EReal :=
  rms (feedR (attendR c (mixedR x a b w) gx wq K V wo) gm wu wd) gf

end Cert.Rows

end
-- ==== Proof.Kern.Block0.lean ====
/- UNTRUSTED — the first kernel's block read at an index: two batches of the memory, each row normalised and multiplied
   by the key columns and by the value columns of the projection. -/
module

public import proofs.«01_k».proof.Proof.Gen.KernelIdeal.Frame
public import proofs.«01_k».proof.Proof.Rows.Spec
public import Idealize.ShloMosaic.Lib.Pointwise
public import Idealize.ShloMosaic.Lib.Pipeline.ValueKit

@[expose] public section

set_option maxRecDepth 16384

noncomputable section

namespace Cert.KernelIdeal.Memkv

open Cert.KernelIdeal Cert.KernelIdeal.Gen Idealize.ShloMosaic Cert.Rows

theorem k0_pay2_apply (v0 : Vec Ideal S2x256x1024 .f32) (v2 : Vec Ideal S1x1024 .f32) (v17 : Vec Ideal S1024x1024 .bf16)
    (a : Fin 2) (k : Fin 256) (j : Fin 1024) :
    k0_pay2 v0 v2 v17 (ix3 a k j) = lin (rms (fun d => v0 (ix3 a k d)) fun d => v2 (ix2 0 d)) (fun d j => v17 (ix2 d j)) j := by
  unfold lin rms Rows.inv
  pointwise [k0_pay2, k0_pay1]

theorem k0_pay3_apply (v0 : Vec Ideal S2x256x1024 .f32) (v2 : Vec Ideal S1x1024 .f32) (v17 : Vec Ideal S1024x1024 .bf16)
    (a : Fin 2) (k : Fin 256) (j : Fin 1024) :
    k0_pay3 v0 v2 v17 (ix3 a k j) = lin (rms (fun d => v0 (ix3 a k d)) fun d => v2 (ix2 0 d)) (fun d j => v17 (ix2 d j)) j := by
  unfold lin rms Rows.inv
  pointwise [k0_pay3, k0_pay1]

/-- The keys' block: the memory block's rows normalised, times the first 1024 columns of the projection. -/
theorem out0_3_apply (x0 : Vec Ideal S2x256x1024 .f32) (x1 : Vec Ideal S1x1024 .f32) (x2 : Vec Ideal S1024x2048 .bf16)
    (a : Fin 2) (k : Fin 256) (j : Fin 1024) :
    out0_3 x0 x1 x2 (ix3 a k j)
      = lin (rms (fun d => x0 (ix3 a k d)) fun d => x1 (ix2 0 d)) (fun d (j : Fin 1024) => x2 (ix2 d ⟨j.val, by omega⟩)) j := by
  frame_out
  rw [k0_pay2_apply]
  congr 1
  funext d j
  pointwise

/-- The values' block: the same rows times the last 1024 columns. -/
theorem out0_4_apply (x0 : Vec Ideal S2x256x1024 .f32) (x1 : Vec Ideal S1x1024 .f32) (x2 : Vec Ideal S1024x2048 .bf16)
    (a : Fin 2) (k : Fin 256) (j : Fin 1024) :
    out0_4 x0 x1 x2 (ix3 a k j)
      = lin (rms (fun d => x0 (ix3 a k d)) fun d => x1 (ix2 0 d)) (fun d (j : Fin 1024) => x2 (ix2 d ⟨1024 + j.val, by omega⟩)) j := by
  frame_out
  rw [k0_pay3_apply]
  congr 1
  funext d j
  pointwise

end Cert.KernelIdeal.Memkv

end
-- ==== Proof.Kern.Array0.lean ====
/- UNTRUSTED — what the first kernel leaves in its two arrays: the keys and the values of every batch's memory, from the
   arrays it was entered with. -/
module

public import proofs.«01_k».proof.Proof.Kern.Block0
public import Idealize.ShloMosaic.Lib.Pipeline.ValueKit

@[expose] public section

set_option maxRecDepth 16384

noncomputable section

namespace Cert.KernelIdeal.Memkv

open Idealize.ShloMosaic Idealize.ShloMosaic.TcCoe Idealize.SL.Sem
open Idealize.ShloMosaic.Pipeline (Dat)
open Cert.KernelIdeal Cert.KernelIdeal.Gen Cert.Rows

variable (V : (c : Dev nD) → (b : Ref sig .tc) → Buf (Elt Ideal) ((c : Thread nD τ).loc b))

/-- The keys of every batch. -/
def keys (M : Vec Ideal S16x256x1024 .f32) (g : Vec Ideal S1x1024 .f32) (w : Vec Ideal S1024x2048 .bf16) : Vec Ideal S16x256x1024 .bf16 := fun i =>
  lin (rms (fun d => M (ix3 (i 0) (i 1) d)) fun d => g (ix2 0 d)) (fun d (j : Fin 1024) => w (ix2 d ⟨j.val, by omega⟩)) (i 2)

/-- The values of every batch. -/
def vals (M : Vec Ideal S16x256x1024 .f32) (g : Vec Ideal S1x1024 .f32) (w : Vec Ideal S1024x2048 .bf16) : Vec Ideal S16x256x1024 .bf16 := fun i =>
  lin (rms (fun d => M (ix3 (i 0) (i 1) d)) fun d => g (ix2 0 d)) (fun d (j : Fin 1024) => w (ix2 d ⟨1024 + j.val, by omega⟩)) (i 2)

/-- Where each window's block lies at a grid point. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

theorem arr3 (c : Dev nD) : (dat0 V c).arrAt 3 cfg0.N = keys (V c main_arg1) (V c main_v14) (V c main_v6) := by
  refine (dat0 V c).arrAt_eq_of_covers 3 _ (by decide +kernel) fun t hf y => ?_
  blk_simp
  rw [after0_3]
  obtain ⟨a, k, j, rfl⟩ : ∃ (a : Fin 2) (k : Fin 256) (j : Fin 1024), y = ix3 a k j := ⟨y 0, y 1, y 2, eq_ix3 y⟩
  refine (out0_3_apply _ _ _ a k j).trans ?_
  unfold keys
  congr 1
  · congr 1
    · funext d; blk_ext [iblk0, idx t]
    · funext d; blk_ext [iblk0, idx t]
  · funext d j; blk_ext [iblk0, idx t]
  · apply Fin.ext; blk_simp [idx t]

theorem arr4 (c : Dev nD) : (dat0 V c).arrAt 4 cfg0.N = vals (V c main_arg1) (V c main_v14) (V c main_v6) := by
  refine (dat0 V c).arrAt_eq_of_covers 4 _ (by decide +kernel) fun t hf y => ?_
  blk_simp
  rw [after0_4]
  obtain ⟨a, k, j, rfl⟩ : ∃ (a : Fin 2) (k : Fin 256) (j : Fin 1024), y = ix3 a k j := ⟨y 0, y 1, y 2, eq_ix3 y⟩
  refine (out0_4_apply _ _ _ a k j).trans ?_
  unfold vals
  congr 1
  · congr 1
    · funext d; blk_ext [iblk0, idx t]
    · funext d; blk_ext [iblk0, idx t]
  · funext d j; blk_ext [iblk0, idx t]
  · apply Fin.ext; blk_simp [idx t]

end Cert.KernelIdeal.Memkv

end
-- ==== Proof.Consts.lean ====
/- UNTRUSTED — the float constants that the two programs spell, as the extended reals their patterns denote. -/
module

public import Idealize.ShloMosaic.PureOps.Ideal

@[expose] public section

noncomputable section

namespace Cert.Consts

open Idealize.ShloMosaic

/-- The pattern of `0.0625`, the scale of the attention scores, denotes the real `1 / 16`. -/
theorem ofBits_sixteenth : Ideal.ofBits .f32 0x3D800000#32 = (((1 / 16 : ℝ)) : EReal) := by
  simp [Ideal.ofBits, Ideal.ieee, -EReal.coe_mul]; norm_num

/-- The pattern of minus infinity, where every maximum starts, denotes the bottom element. -/
theorem ofBits_bot : Ideal.ofBits .f32 0xFF800000#32 = (⊥ : EReal) := by
  simp [Ideal.ofBits, Ideal.ieee]

end Cert.Consts

end
-- ==== Proof.Kern.Attend.lean ====
/- UNTRUSTED — the second kernel's block, first part, read at an index: the projection of the mixed output and one head
   of the attention over the memory, for each of the two halves of 512 rows. -/
module

public import proofs.«01_k».proof.Proof.Gen.KernelIdeal.Frame
public import proofs.«01_k».proof.Proof.Rows.Spec
public import proofs.«01_k».proof.Proof.Consts
public import Idealize.ShloMosaic.Lib.Pointwise

@[expose] public section

set_option maxRecDepth 16384

noncomputable section

namespace Cert.KernelIdeal.Post

open Cert.KernelIdeal Cert.KernelIdeal.Gen Idealize.ShloMosaic Cert.Rows

/-- The scale of the queries: the named constant, as an extended real. -/
abbrev scale : EReal := Named.named (F := Ideal) κ "scale" (φ := .f32) 0x3DB8AA3B#32

/-- Four blocks of 256 columns side by side. -/
def cat4 (a b c d : FVec Ideal S512x256 .bf16) : FVec Ideal S512x1024 .bf16 :=
  concatenate S512x1024 1 [⟨S512x256, a⟩, ⟨S512x256, b⟩, ⟨S512x256, c⟩, ⟨S512x256, d⟩] concatenates_S512x256_S512x256_S512x256_S512x256_S512x1024_d1

/-- Column `j` of four blocks side by side is column `j % 256` of block `j / 256`. -/
theorem cat4_apply (a b c d : FVec Ideal S512x256 .bf16) (r : Fin 512) (f : Fin 1024 → EReal)
    (ha : ∀ e, a (ix2 r e) = f (col 0 e)) (hb : ∀ e, b (ix2 r e) = f (col 1 e))
    (hc : ∀ e, c (ix2 r e) = f (col 2 e)) (hd : ∀ e, d (ix2 r e) = f (col 3 e)) (j : Fin 1024) :
    cat4 a b c d (ix2 r j) = f j := by
  pointwise [cat4]
  split
  · rw [ha]; congr 1; apply Fin.ext; simp [col]
  · split
    · rw [hb]; congr 1; apply Fin.ext; simp [col]; omega
    · split
      · rw [hc]; congr 1; apply Fin.ext; simp [col]; omega
      · rw [hd]; congr 1; apply Fin.ext; simp [col]; omega

/-- The last head's softmax and product with its values, as the first half's payload writes it. -/
def soft (p : FVec Ideal S512x256 .f32) (v : Vec Ideal S1x256x256 .bf16) : FVec Ideal S512x256 .bf16 :=
  k1_pay20 p v

theorem soft_apply (s : FVec Ideal S512x256 .f32) (v : Vec Ideal S1x256x256 .bf16) (r : Fin 512) (e : Fin 256) :
    soft (k1_pay19 s) v (ix2 r e) = mix2 (fun k => s (ix2 r k)) fun k => v (ix3 0 k e) := by
  unfold soft mix2 top
  pointwise [k1_pay20, k1_pay19]
  simp only [Consts.ofBits_bot]
  rfl

theorem pay21_eq (s : FVec Ideal S512x256 .f32) (v : Vec Ideal S1x256x256 .bf16) : k1_pay21 s v = soft (k1_pay19 s) v := rfl
theorem pay22_eq (s : FVec Ideal S512x256 .f32) (v : Vec Ideal S1x256x256 .bf16) : k1_pay22 s v = soft (k1_pay19 s) v := rfl
theorem pay25_eq (s : FVec Ideal S512x256 .f32) (v : Vec Ideal S1x256x256 .bf16) : k1_pay25 s v = soft (k1_pay19 s) v := rfl

/-- The projection of four heads side by side, added to the row: both halves' payloads. -/
def proj (x : FVec Ideal S512x1024 .f32) (a : FVec Ideal S512x1024 .bf16) (w : Vec Ideal S1024x1024 .bf16) : FVec Ideal S512x1024 .f32 :=
  addf x (matmul dot_S512x1024_S1024x1024_S512x1024_1_0_0_1_n_n none a (shapeCast S1024x1024 w shapeCasts_S1024x1024_S1024x1024 : FVec Ideal S1024x1024 .bf16) (constant S512x1024 .f32 0x00000000#32))

theorem proj_apply (x : FVec Ideal S512x1024 .f32) (a : FVec Ideal S512x1024 .bf16) (w : Vec Ideal S1024x1024 .bf16) (r : Fin 512) (d : Fin 1024) :
    proj x a w (ix2 r d) = x (ix2 r d) + ∑ k, a (ix2 r k) * w (ix2 k d) := by
  pointwise [proj]

theorem pay24_eq (v11 : FVec Ideal S512x1024 .f32) (v111 v125 v139 : FVec Ideal S512x256 .bf16) (v144 : FVec Ideal S512x256 .f32)
    (v150 : Vec Ideal S1x256x256 .bf16) (v155 : Vec Ideal S1024x1024 .bf16) :
    k1_pay24 v11 v111 v125 v139 v144 v150 v155 = proj v11 (cat4 v111 v125 v139 (soft v144 v150)) v155 := rfl

theorem pay27_eq (v23 : FVec Ideal S512x1024 .f32) (s1 s2 s3 : FVec Ideal S512x256 .f32) (v172 : FVec Ideal S512x256 .bf16)
    (w1 w2 w3 : Vec Ideal S1x256x256 .bf16) (v216 : Vec Ideal S1024x1024 .bf16) :
    k1_pay27 v23 s2 s3 v172 (k1_pay26 s1 w1) w2 w3 v216
      = proj v23 (cat4 v172 (soft (k1_pay19 s1) w1) (soft (k1_pay19 s2) w2) (soft (k1_pay19 s3) w3)) v216 := rfl

/-- The scaled queries of the first half at an index. -/
theorem pay7_apply (x : FVec Ideal S512x1024 .f32) (g : FVec Ideal S1x1024 .f32) (n : FVec Ideal S512x1 .f32) (w : Vec Ideal S1024x1024 .bf16)
    (r : Fin 512) (hn : n (ix2 r 0) = Ideal.div (∑ k, x (ix2 r k) * x (ix2 r k)) (Ideal.ofBits .f32 0x44800000#32)) (d : Fin 1024) :
    k1_pay7 x g n w (ix2 r d) = lin (rms (fun k => x (ix2 r k)) fun k => g (ix2 0 k)) (fun k j => w (ix2 k j)) d * scale := by
  unfold lin rms Rows.inv
  pointwise [k1_pay7]
  rw [hn]

/-- The scaled queries of the second half at an index. -/
theorem pay14_apply (x : FVec Ideal S512x1024 .f32) (g : FVec Ideal S1x1024 .f32) (n : FVec Ideal S512x1 .f32) (w : Vec Ideal S1024x1024 .bf16)
    (r : Fin 512) (hn : n (ix2 r 0) = ∑ k, x (ix2 r k) * x (ix2 r k)) (d : Fin 1024) :
    k1_pay14 x g n (Scalar.ofBits .f32 0x44800000#32) w (ix2 r d)
      = lin (rms (fun k => x (ix2 r k)) fun k => g (ix2 0 k)) (fun k j => w (ix2 k j)) d * scale := by
  unfold lin rms Rows.inv
  pointwise [k1_pay14]
  rw [hn]

/-- The scores of the first half's four heads at an index. -/
theorem pay8_apply (x : FVec Ideal S512x1024 .f32) (g : FVec Ideal S1x1024 .f32) (n : FVec Ideal S512x1 .f32) (w : Vec Ideal S1024x1024 .bf16)
    (b : Vec Ideal S1x256x1024 .bf16) (r : Fin 512) (k : Fin 256) :
    k1_pay8 x g n w (View.ld b r1_6) (ix2 r k) = scores (fun d => k1_pay7 x g n w (ix2 r d)) (fun k d => b (ix3 0 k d)) 0 k := by
  unfold scores col; pointwise [k1_pay8]
theorem pay9_apply (x : FVec Ideal S512x1024 .f32) (g : FVec Ideal S1x1024 .f32) (n : FVec Ideal S512x1 .f32) (w : Vec Ideal S1024x1024 .bf16)
    (b : Vec Ideal S1x256x1024 .bf16) (r : Fin 512) (k : Fin 256) :
    k1_pay9 x g n w (View.ld b r1_7) (ix2 r k) = scores (fun d => k1_pay7 x g n w (ix2 r d)) (fun k d => b (ix3 0 k d)) 1 k := by
  unfold scores col; pointwise [k1_pay9]
theorem pay10_apply (x : FVec Ideal S512x1024 .f32) (g : FVec Ideal S1x1024 .f32) (n : FVec Ideal S512x1 .f32) (w : Vec Ideal S1024x1024 .bf16)
    (b : Vec Ideal S1x256x1024 .bf16) (r : Fin 512) (k : Fin 256) :
    k1_pay10 x g n w (View.ld b r1_8) (ix2 r k) = scores (fun d => k1_pay7 x g n w (ix2 r d)) (fun k d => b (ix3 0 k d)) 2 k := by
  unfold scores col; pointwise [k1_pay10]
theorem pay11_apply (x : FVec Ideal S512x1024 .f32) (g : FVec Ideal S1x1024 .f32) (n : FVec Ideal S512x1 .f32) (w : Vec Ideal S1024x1024 .bf16)
    (b : Vec Ideal S1x256x1024 .bf16) (r : Fin 512) (k : Fin 256) :
    k1_pay11 x g n w (View.ld b r1_9) (ix2 r k) = scores (fun d => k1_pay7 x g n w (ix2 r d)) (fun k d => b (ix3 0 k d)) 3 k := by
  unfold scores col; pointwise [k1_pay11]

/-- The scores of the second half's four heads at an index. -/
theorem pay15_apply (x : FVec Ideal S512x1024 .f32) (g : FVec Ideal S1x1024 .f32) (n : FVec Ideal S512x1 .f32) (z : Ideal .f32) (w : Vec Ideal S1024x1024 .bf16)
    (b : Vec Ideal S1x256x1024 .bf16) (r : Fin 512) (k : Fin 256) :
    k1_pay15 x g n z w (View.ld b r1_6) (ix2 r k) = scores (fun d => k1_pay14 x g n z w (ix2 r d)) (fun k d => b (ix3 0 k d)) 0 k := by
  unfold scores col; pointwise [k1_pay15]
theorem pay16_apply (x : FVec Ideal S512x1024 .f32) (g : FVec Ideal S1x1024 .f32) (n : FVec Ideal S512x1 .f32) (z : Ideal .f32) (w : Vec Ideal S1024x1024 .bf16)
    (b : Vec Ideal S1x256x1024 .bf16) (r : Fin 512) (k : Fin 256) :
    k1_pay16 x g n z w (View.ld b r1_7) (ix2 r k) = scores (fun d => k1_pay14 x g n z w (ix2 r d)) (fun k d => b (ix3 0 k d)) 1 k := by
  unfold scores col; pointwise [k1_pay16]
theorem pay17_apply (x : FVec Ideal S512x1024 .f32) (g : FVec Ideal S1x1024 .f32) (n : FVec Ideal S512x1 .f32) (z : Ideal .f32) (w : Vec Ideal S1024x1024 .bf16)
    (b : Vec Ideal S1x256x1024 .bf16) (r : Fin 512) (k : Fin 256) :
    k1_pay17 x g n z w (View.ld b r1_8) (ix2 r k) = scores (fun d => k1_pay14 x g n z w (ix2 r d)) (fun k d => b (ix3 0 k d)) 2 k := by
  unfold scores col; pointwise [k1_pay17]
theorem pay18_apply (x : FVec Ideal S512x1024 .f32) (g : FVec Ideal S1x1024 .f32) (n : FVec Ideal S512x1 .f32) (z : Ideal .f32) (w : Vec Ideal S1024x1024 .bf16)
    (b : Vec Ideal S1x256x1024 .bf16) (r : Fin 512) (k : Fin 256) :
    k1_pay18 x g n z w (View.ld b r1_9) (ix2 r k) = scores (fun d => k1_pay14 x g n z w (ix2 r d)) (fun k d => b (ix3 0 k d)) 3 k := by
  unfold scores col; pointwise [k1_pay18]

end Cert.KernelIdeal.Post

end
-- ==== Proof.Kern.Feed.lean ====
/- UNTRUSTED — the second kernel's block, last part, read at an index: the normalisation, the four slabs of the
   squared-ReLU feed-forward and the last normalisation, for each of the two halves of 512 rows. -/
module

public import proofs.«01_k».proof.Proof.Gen.KernelIdeal.Frame
public import proofs.«01_k».proof.Proof.Rows.Spec
public import Idealize.ShloMosaic.Lib.Pointwise

@[expose] public section

set_option maxRecDepth 16384

noncomputable section

namespace Cert.KernelIdeal.Post

open Cert.KernelIdeal Cert.KernelIdeal.Gen Idealize.ShloMosaic Cert.Rows

/-- The normalised row of the first half, from its mean square. -/
theorem pay30_apply (x : FVec Ideal S512x1024 .f32) (g : FVec Ideal S1x1024 .f32) (n : FVec Ideal S512x1 .f32)
    (r : Fin 512) (hn : n (ix2 r 0) = Ideal.div (∑ k, x (ix2 r k) * x (ix2 r k)) (Ideal.ofBits .f32 0x44800000#32)) (d : Fin 1024) :
    k1_pay30 x g n (ix2 r d) = rms (fun k => x (ix2 r k)) (fun k => g (ix2 0 k)) d := by
  unfold rms Rows.inv
  pointwise [k1_pay30]
  rw [hn]

/-- The normalised row of the second half. -/
theorem pay31_apply (x : FVec Ideal S512x1024 .f32) (g : Vec Ideal S1x1024 .f32) (r : Fin 512) (d : Fin 1024) :
    k1_pay31 x (View.ld g r1_4) (ix2 r d) = rms (fun k => x (ix2 r k)) (fun k => g (ix2 0 k)) d := by
  unfold rms Rows.inv
  pointwise [k1_pay31]

/-- The first slab of the first half, added to the row. -/
theorem pay33_apply (x : FVec Ideal S512x1024 .f32) (g : FVec Ideal S1x1024 .f32) (n : FVec Ideal S512x1 .f32)
    (wu : Vec Ideal S1024x4096 .bf16) (wd : Vec Ideal S4096x1024 .bf16) (r : Fin 512) (d : Fin 1024) :
    k1_pay33 x g n (View.ld wu r1_10) (View.ld wd r1_11) (ix2 r d)
      = x (ix2 r d) + slab (fun k => k1_pay30 x g n (ix2 r k)) (fun k j => wu (ix2 k j)) (fun k j => wd (ix2 k j)) 0 (by omega) d := by
  unfold slab relu2
  pointwise [k1_pay33]

/-- The second slab of the first half. -/
theorem pay34_apply (h : FVec Ideal S512x1024 .bf16) (a : FVec Ideal S512x1024 .f32)
    (wu : Vec Ideal S1024x4096 .bf16) (wd : Vec Ideal S4096x1024 .bf16) (r : Fin 512) (d : Fin 1024) :
    k1_pay34 h a (View.ld wu r1_12) (View.ld wd r1_13) (ix2 r d)
      = a (ix2 r d) + slab (fun k => h (ix2 r k)) (fun k j => wu (ix2 k j)) (fun k j => wd (ix2 k j)) 1024 (by omega) d := by
  unfold slab relu2
  pointwise [k1_pay34]

/-- The third and fourth slabs of the first half. -/
theorem pay39_apply (h : FVec Ideal S512x1024 .bf16) (a : FVec Ideal S512x1024 .f32)
    (wu : Vec Ideal S1024x4096 .bf16) (wd : Vec Ideal S4096x1024 .bf16) (r : Fin 512) (d : Fin 1024) :
    k1_pay39 h a (k1_pay36 h (View.ld wu r1_14)) (View.ld wd r1_15) (View.ld wu r1_16) (View.ld wd r1_17) (ix2 r d)
      = a (ix2 r d) + slab (fun k => h (ix2 r k)) (fun k j => wu (ix2 k j)) (fun k j => wd (ix2 k j)) 2048 (by omega) d
        + slab (fun k => h (ix2 r k)) (fun k j => wu (ix2 k j)) (fun k j => wd (ix2 k j)) 3072 (by omega) d := by
  unfold slab relu2
  pointwise [k1_pay39, k1_pay36]

/-- The first and second slabs of the second half, added to the row. -/
theorem pay35_apply (x : FVec Ideal S512x1024 .f32) (g : Vec Ideal S1x1024 .f32)
    (wu : Vec Ideal S1024x4096 .bf16) (wd : Vec Ideal S4096x1024 .bf16) (r : Fin 512) (d : Fin 1024) :
    k1_pay35 x (k1_pay31 x (View.ld g r1_4)) (k1_pay32 x (View.ld g r1_4) (View.ld wu r1_10)) (View.ld wd r1_11) (View.ld wu r1_12) (View.ld wd r1_13) (ix2 r d)
      = x (ix2 r d) + slab (fun k => k1_pay31 x (View.ld g r1_4) (ix2 r k)) (fun k j => wu (ix2 k j)) (fun k j => wd (ix2 k j)) 0 (by omega) d
        + slab (fun k => k1_pay31 x (View.ld g r1_4) (ix2 r k)) (fun k j => wu (ix2 k j)) (fun k j => wd (ix2 k j)) 1024 (by omega) d := by
  unfold slab relu2
  generalize hq : k1_pay31 x (View.ld g r1_4) = q
  unfold k1_pay32
  rw [hq]
  pointwise [k1_pay35]

/-- The third and fourth slabs of the second half. -/
theorem pay40_apply (h : FVec Ideal S512x1024 .bf16) (a : FVec Ideal S512x1024 .f32)
    (wu : Vec Ideal S1024x4096 .bf16) (wd : Vec Ideal S4096x1024 .bf16) (r : Fin 512) (d : Fin 1024) :
    k1_pay40 h a (k1_pay37 h (View.ld wu r1_14)) (k1_pay38 (F := Ideal)) (View.ld wd r1_15) (View.ld wu r1_16) (View.ld wd r1_17) (ix2 r d)
      = a (ix2 r d) + slab (fun k => h (ix2 r k)) (fun k j => wu (ix2 k j)) (fun k j => wd (ix2 k j)) 2048 (by omega) d
        + slab (fun k => h (ix2 r k)) (fun k j => wu (ix2 k j)) (fun k j => wd (ix2 k j)) 3072 (by omega) d := by
  unfold slab relu2
  pointwise [k1_pay40, k1_pay37, k1_pay38]

/-- The last normalisation of the first half, from its sum of squares. -/
theorem pay1_apply (x : FVec Ideal S512x1024 .f32) (g : Vec Ideal S1x1024 .f32) (n : FVec Ideal S512 .f32)
    (r : Fin 512) (hn : n (ix1 r) = ∑ k, x (ix2 r k) * x (ix2 r k)) (d : Fin 1024) :
    k1_pay1 x (k1_pay41 (View.ld g r1_4)) n (ix2 r d) = rms (fun k => x (ix2 r k)) (fun k => g (ix2 0 k)) d := by
  unfold rms Rows.inv
  pointwise [k1_pay1, k1_pay41]
  rw [hn]

/-- The last normalisation of the second half. -/
theorem pay2_apply (x : FVec Ideal S512x1024 .f32) (g : Vec Ideal S1x1024 .f32) (r : Fin 512) (d : Fin 1024) :
    k1_pay2 x (View.ld g r1_4) (ix2 r d) = rms (fun k => x (ix2 r k)) (fun k => g (ix2 0 k)) d := by
  unfold rms Rows.inv
  pointwise [k1_pay2]

/-- The sum of squares of the first half's row before the last normalisation. -/
theorem pay42_apply (v234 : FVec Ideal S512x1024 .bf16) (v289 : FVec Ideal S512x1024 .f32) (v300 : FVec Ideal S512x1024 .bf16)
    (v308 v316 v330 : Vec Ideal S1024x1024 .bf16) (r : Fin 512) :
    k1_pay42 v234 v289 v300 v308 v316 v330 (ix1 r)
      = ∑ k, k1_pay39 v234 v289 v300 v308 v316 v330 (ix2 r k) * k1_pay39 v234 v289 v300 v308 v316 v330 (ix2 r k) := by
  pointwise [k1_pay42]

end Cert.KernelIdeal.Post

end
-- ==== Proof.Kern.Block1.lean ====
/- UNTRUSTED — the second kernel's block, assembled: every row of the block it stores is the kernel's tail of that row of
   its input blocks. -/
module

public import proofs.«01_k».proof.Proof.Kern.Attend
public import proofs.«01_k».proof.Proof.Kern.Feed
public import Idealize.ShloMosaic.Lib.Pipeline.ValueKit

@[expose] public section

set_option maxRecDepth 16384

noncomputable section

namespace Cert.KernelIdeal.Post

open Cert.KernelIdeal Cert.KernelIdeal.Gen Idealize.ShloMosaic Cert.Rows

theorem headOf_col (h : Fin 4) (e : Fin 256) : headOf (col h e) = h := by
  apply Fin.ext; simp [headOf, col]; omega

variable (x0 : Vec Ideal S1024x1024 .f32) (x1 : Vec Ideal S1024x512 .bf16) (x2 : Vec Ideal S1024x512 .bf16) (x3 : Vec Ideal S1024x1024 .bf16) (x4 : Vec Ideal S1x1024 .f32) (x5 : Vec Ideal S1024x1024 .bf16) (x6 : Vec Ideal S1x256x1024 .bf16) (x7 : Vec Ideal S1x256x1024 .bf16) (x8 : Vec Ideal S1024x1024 .bf16) (x9 : Vec Ideal S1x1024 .f32) (x10 : Vec Ideal S1024x4096 .bf16) (x11 : Vec Ideal S4096x1024 .bf16) (x12 : Vec Ideal S1x1024 .f32)

/-- Row `i` of the block after the two products of the mixed output. -/
abbrev rowMixed (i : Fin 1024) : Fin 1024 → EReal := mixedK (fun k => x0 (ix2 i k)) (fun k => x1 (ix2 i k)) (fun k => x2 (ix2 i k)) (fun k j => x3 (ix2 k j))

/-- Row `i` of the block after the attention over the memory. -/
abbrev rowAttend (i : Fin 1024) : Fin 1024 → EReal :=
  attendK scale (rowMixed x0 x1 x2 x3 i) (fun k => x4 (ix2 0 k)) (fun k j => x5 (ix2 k j)) (fun k j => x6 (ix3 0 k j)) (fun k j => x7 (ix3 0 k j)) (fun k j => x8 (ix2 k j))

/-- Row `i` of the block after the feed-forward step. -/
abbrev rowFeed (i : Fin 1024) : Fin 1024 → EReal :=
  feedK (rowAttend x0 x1 x2 x3 x4 x5 x6 x7 x8 i) (fun k => x9 (ix2 0 k)) (fun k j => x10 (ix2 k j)) (fun k j => x11 (ix2 k j))

/-- Row `i` of the block the kernel stores. -/
abbrev rowTail (i : Fin 1024) : Fin 1024 → EReal :=
  tailK scale (fun k => x0 (ix2 i k)) (fun k => x1 (ix2 i k)) (fun k => x2 (ix2 i k)) (fun k j => x3 (ix2 k j)) (fun k => x4 (ix2 0 k)) (fun k j => x5 (ix2 k j)) (fun k j => x6 (ix3 0 k j)) (fun k j => x7 (ix3 0 k j)) (fun k j => x8 (ix2 k j)) (fun k => x9 (ix2 0 k)) (fun k j => x10 (ix2 k j)) (fun k j => x11 (ix2 k j)) (fun k => x12 (ix2 0 k))

/-- Half A: the rows after the mixed output's projection. -/
theorem mixedA (r : Fin 512) (d : Fin 1024) : k1_pay43 x0 x1 x2 x3 x4 x5 x6 x7 x8 x9 x10 x11 x12 (ix2 r d) = rowMixed x0 x1 x2 x3 ⟨r.val, by omega⟩ d := by
  unfold k1_pay43 rowMixed mixedK
  pointwise [k1_pay3]

theorem gainA (d : Fin 1024) : k1_pay45 x0 x1 x2 x3 x4 x5 x6 x7 x8 x9 x10 x11 x12 (ix2 0 d) = x4 (ix2 0 d) := by
  unfold k1_pay45
  pointwise [k1_pay5]

theorem squareA (r : Fin 512) : k1_pay46 x0 x1 x2 x3 x4 x5 x6 x7 x8 x9 x10 x11 x12 (ix2 r 0) = Ideal.div (∑ k, k1_pay43 x0 x1 x2 x3 x4 x5 x6 x7 x8 x9 x10 x11 x12 (ix2 r k) * k1_pay43 x0 x1 x2 x3 x4 x5 x6 x7 x8 x9 x10 x11 x12 (ix2 r k)) (Ideal.ofBits .f32 0x44800000#32) := by
  unfold k1_pay46
  pointwise [k1_pay6]
  rfl

/-- Half A: the scaled queries. -/
theorem queryA (r : Fin 512) (d : Fin 1024) :
    k1_pay7 (k1_pay43 x0 x1 x2 x3 x4 x5 x6 x7 x8 x9 x10 x11 x12) (k1_pay45 x0 x1 x2 x3 x4 x5 x6 x7 x8 x9 x10 x11 x12) (k1_pay46 x0 x1 x2 x3 x4 x5 x6 x7 x8 x9 x10 x11 x12) (View.ld x5 r1_5) (ix2 r d)
      = lin (rms (rowMixed x0 x1 x2 x3 ⟨r.val, by omega⟩) (fun k => x4 (ix2 0 k))) (fun k j => x5 (ix2 k j)) d * scale := by
  rw [pay7_apply _ _ _ _ r (squareA x0 x1 x2 x3 x4 x5 x6 x7 x8 x9 x10 x11 x12 r)]
  have e1 : (fun k => k1_pay43 x0 x1 x2 x3 x4 x5 x6 x7 x8 x9 x10 x11 x12 (ix2 r k)) = rowMixed x0 x1 x2 x3 ⟨r.val, by omega⟩ := funext fun k => mixedA x0 x1 x2 x3 x4 x5 x6 x7 x8 x9 x10 x11 x12 r k
  have e2 : (fun k => k1_pay45 x0 x1 x2 x3 x4 x5 x6 x7 x8 x9 x10 x11 x12 (ix2 0 k)) = (fun k => x4 (ix2 0 k)) := funext fun k => gainA x0 x1 x2 x3 x4 x5 x6 x7 x8 x9 x10 x11 x12 k
  have e3 : (fun k j => View.ld x5 r1_5 (ix2 k j)) = (fun k j => x5 (ix2 k j)) := by funext k j; pointwise
  rw [e1, e2, e3]

/-- Half A: the rows after the attention over the memory. -/
theorem attendA (r : Fin 512) (d : Fin 1024) : k1_pay49 x0 x1 x2 x3 x4 x5 x6 x7 x8 x9 x10 x11 x12 (ix2 r d) = rowAttend x0 x1 x2 x3 x4 x5 x6 x7 x8 ⟨r.val, by omega⟩ d := by
  have eq : (fun d => k1_pay7 (k1_pay43 x0 x1 x2 x3 x4 x5 x6 x7 x8 x9 x10 x11 x12) (k1_pay45 x0 x1 x2 x3 x4 x5 x6 x7 x8 x9 x10 x11 x12) (k1_pay46 x0 x1 x2 x3 x4 x5 x6 x7 x8 x9 x10 x11 x12) (View.ld x5 r1_5) (ix2 r d))
      = fun d => lin (rms (rowMixed x0 x1 x2 x3 ⟨r.val, by omega⟩) (fun k => x4 (ix2 0 k))) (fun k j => x5 (ix2 k j)) d * scale := funext fun d => queryA x0 x1 x2 x3 x4 x5 x6 x7 x8 x9 x10 x11 x12 r d
  unfold k1_pay49
  rw [pay24_eq, pay21_eq, pay22_eq, show k1_pay20 = soft from rfl, show k1_pay23 = k1_pay19 from rfl, proj_apply, mixedA x0 x1 x2 x3 x4 x5 x6 x7 x8 x9 x10 x11 x12 r d]
  unfold rowAttend attendK lin
  congr 1
  refine Finset.sum_congr rfl fun j _ => ?_
  congr 1
  · refine cat4_apply _ _ _ _ r (fun i => mix2 (scores (fun d => lin (rms (rowMixed x0 x1 x2 x3 ⟨r.val, by omega⟩) (fun k => x4 (ix2 0 k))) (fun k j => x5 (ix2 k j)) d * scale) (fun k j => x6 (ix3 0 k j)) (headOf i)) fun k => x7 (ix3 0 k i)) ?_ ?_ ?_ ?_ j
    · intro e
      rw [soft_apply]
      simp only [pay8_apply]
      rw [eq]
      congr 1
      · rw [headOf_col]
      · funext k; unfold col; pointwise
    · intro e
      rw [soft_apply]
      simp only [pay9_apply]
      rw [eq]
      congr 1
      · rw [headOf_col]
      · funext k; unfold col; pointwise
    · intro e
      rw [soft_apply]
      simp only [pay10_apply]
      rw [eq]
      congr 1
      · rw [headOf_col]
      · funext k; unfold col; pointwise
    · intro e
      rw [soft_apply]
      simp only [pay11_apply]
      rw [eq]
      congr 1
      · rw [headOf_col]
      · funext k; unfold col; pointwise
  · pointwise

/-- Half A: the gain of the feed-forward step. -/
theorem gainM (d : Fin 1024) : k1_pay51 x0 x1 x2 x3 x4 x5 x6 x7 x8 x9 x10 x11 x12 (ix2 0 d) = x9 (ix2 0 d) := by
  unfold k1_pay51
  pointwise [k1_pay28]

theorem squareM (r : Fin 512) :
    k1_pay52 x0 x1 x2 x3 x4 x5 x6 x7 x8 x9 x10 x11 x12 (ix2 r 0) = Ideal.div (∑ k, k1_pay49 x0 x1 x2 x3 x4 x5 x6 x7 x8 x9 x10 x11 x12 (ix2 r k) * k1_pay49 x0 x1 x2 x3 x4 x5 x6 x7 x8 x9 x10 x11 x12 (ix2 r k)) (Ideal.ofBits .f32 0x44800000#32) := by
  unfold k1_pay52
  pointwise [k1_pay29]

/-- Half A: the normalised row the feed-forward step reads. -/
theorem normA (r : Fin 512) (d : Fin 1024) :
    k1_pay53 x0 x1 x2 x3 x4 x5 x6 x7 x8 x9 x10 x11 x12 (ix2 r d) = rms (rowAttend x0 x1 x2 x3 x4 x5 x6 x7 x8 ⟨r.val, by omega⟩) (fun k => x9 (ix2 0 k)) d := by
  unfold k1_pay53
  rw [pay30_apply _ _ _ r (squareM x0 x1 x2 x3 x4 x5 x6 x7 x8 x9 x10 x11 x12 r)]
  have e1 : (fun k => k1_pay49 x0 x1 x2 x3 x4 x5 x6 x7 x8 x9 x10 x11 x12 (ix2 r k)) = rowAttend x0 x1 x2 x3 x4 x5 x6 x7 x8 ⟨r.val, by omega⟩ := funext fun k => attendA x0 x1 x2 x3 x4 x5 x6 x7 x8 x9 x10 x11 x12 r k
  have e2 : (fun k => k1_pay51 x0 x1 x2 x3 x4 x5 x6 x7 x8 x9 x10 x11 x12 (ix2 0 k)) = (fun k => x9 (ix2 0 k)) := funext fun k => gainM x0 x1 x2 x3 x4 x5 x6 x7 x8 x9 x10 x11 x12 k
  rw [e1, e2]

/-- Half A: the rows after the feed-forward step. -/
theorem feedA (r : Fin 512) (d : Fin 1024) :
    k1_pay39 (k1_pay53 x0 x1 x2 x3 x4 x5 x6 x7 x8 x9 x10 x11 x12) (k1_pay55 x0 x1 x2 x3 x4 x5 x6 x7 x8 x9 x10 x11 x12) (k1_pay56 x0 x1 x2 x3 x4 x5 x6 x7 x8 x9 x10 x11 x12) (View.ld x11 r1_15) (View.ld x10 r1_16) (View.ld x11 r1_17) (ix2 r d)
      = rowFeed x0 x1 x2 x3 x4 x5 x6 x7 x8 x9 x10 x11 ⟨r.val, by omega⟩ d := by
  have e1 : (fun k => k1_pay53 x0 x1 x2 x3 x4 x5 x6 x7 x8 x9 x10 x11 x12 (ix2 r k)) = rms (rowAttend x0 x1 x2 x3 x4 x5 x6 x7 x8 ⟨r.val, by omega⟩) (fun k => x9 (ix2 0 k)) :=
    funext fun k => normA x0 x1 x2 x3 x4 x5 x6 x7 x8 x9 x10 x11 x12 r k
  unfold k1_pay56 k1_pay55
  rw [pay39_apply, pay34_apply, pay33_apply, attendA x0 x1 x2 x3 x4 x5 x6 x7 x8 x9 x10 x11 x12 r d]
  change _ + slab (fun k => k1_pay53 x0 x1 x2 x3 x4 x5 x6 x7 x8 x9 x10 x11 x12 (ix2 r k)) _ _ 0 _ d + _ + _ + _ = _
  rw [e1]
  rfl

/-- Half A: the rows stored. -/
theorem tailA (r : Fin 512) (d : Fin 1024) :
    k1_pay1 (k1_pay39 (k1_pay53 x0 x1 x2 x3 x4 x5 x6 x7 x8 x9 x10 x11 x12) (k1_pay55 x0 x1 x2 x3 x4 x5 x6 x7 x8 x9 x10 x11 x12) (k1_pay56 x0 x1 x2 x3 x4 x5 x6 x7 x8 x9 x10 x11 x12) (View.ld x11 r1_15) (View.ld x10 r1_16) (View.ld x11 r1_17)) (k1_pay41 (View.ld x12 r1_4)) (k1_pay42 (k1_pay53 x0 x1 x2 x3 x4 x5 x6 x7 x8 x9 x10 x11 x12) (k1_pay55 x0 x1 x2 x3 x4 x5 x6 x7 x8 x9 x10 x11 x12) (k1_pay56 x0 x1 x2 x3 x4 x5 x6 x7 x8 x9 x10 x11 x12) (View.ld x11 r1_15) (View.ld x10 r1_16) (View.ld x11 r1_17)) (ix2 r d)
      = rowTail x0 x1 x2 x3 x4 x5 x6 x7 x8 x9 x10 x11 x12 ⟨r.val, by omega⟩ d := by
  rw [pay1_apply _ _ _ r (pay42_apply _ _ _ _ _ _ r)]
  have e1 : (fun k => k1_pay39 (k1_pay53 x0 x1 x2 x3 x4 x5 x6 x7 x8 x9 x10 x11 x12) (k1_pay55 x0 x1 x2 x3 x4 x5 x6 x7 x8 x9 x10 x11 x12) (k1_pay56 x0 x1 x2 x3 x4 x5 x6 x7 x8 x9 x10 x11 x12) (View.ld x11 r1_15) (View.ld x10 r1_16) (View.ld x11 r1_17) (ix2 r k)) = rowFeed x0 x1 x2 x3 x4 x5 x6 x7 x8 x9 x10 x11 ⟨r.val, by omega⟩ := funext fun k => feedA x0 x1 x2 x3 x4 x5 x6 x7 x8 x9 x10 x11 x12 r k
  rw [e1]
  rfl

/-- Half B: the rows after the mixed output's projection. -/
theorem mixedB (r : Fin 512) (d : Fin 1024) : k1_pay44 x0 x1 x2 x3 x4 x5 x6 x7 x8 x9 x10 x11 x12 (ix2 r d) = rowMixed x0 x1 x2 x3 ⟨512 + r.val, by omega⟩ d := by
  unfold k1_pay44 rowMixed mixedK
  pointwise [k1_pay4]

theorem gainB (d : Fin 1024) : k1_pay47 x0 x1 x2 x3 x4 x5 x6 x7 x8 x9 x10 x11 x12 (ix2 0 d) = x4 (ix2 0 d) := by
  unfold k1_pay47
  pointwise [k1_pay12]

theorem squareB (r : Fin 512) : k1_pay48 x0 x1 x2 x3 x4 x5 x6 x7 x8 x9 x10 x11 x12 (ix2 r 0) = ∑ k, k1_pay44 x0 x1 x2 x3 x4 x5 x6 x7 x8 x9 x10 x11 x12 (ix2 r k) * k1_pay44 x0 x1 x2 x3 x4 x5 x6 x7 x8 x9 x10 x11 x12 (ix2 r k) := by
  unfold k1_pay48
  pointwise [k1_pay13]

/-- Half B: the scaled queries. -/
theorem queryB (r : Fin 512) (d : Fin 1024) :
    k1_pay14 (k1_pay44 x0 x1 x2 x3 x4 x5 x6 x7 x8 x9 x10 x11 x12) (k1_pay47 x0 x1 x2 x3 x4 x5 x6 x7 x8 x9 x10 x11 x12) (k1_pay48 x0 x1 x2 x3 x4 x5 x6 x7 x8 x9 x10 x11 x12) (Scalar.ofBits .f32 0x44800000#32) (View.ld x5 r1_5) (ix2 r d)
      = lin (rms (rowMixed x0 x1 x2 x3 ⟨512 + r.val, by omega⟩) (fun k => x4 (ix2 0 k))) (fun k j => x5 (ix2 k j)) d * scale := by
  rw [pay14_apply _ _ _ _ r (squareB x0 x1 x2 x3 x4 x5 x6 x7 x8 x9 x10 x11 x12 r)]
  have e1 : (fun k => k1_pay44 x0 x1 x2 x3 x4 x5 x6 x7 x8 x9 x10 x11 x12 (ix2 r k)) = rowMixed x0 x1 x2 x3 ⟨512 + r.val, by omega⟩ := funext fun k => mixedB x0 x1 x2 x3 x4 x5 x6 x7 x8 x9 x10 x11 x12 r k
  have e2 : (fun k => k1_pay47 x0 x1 x2 x3 x4 x5 x6 x7 x8 x9 x10 x11 x12 (ix2 0 k)) = (fun k => x4 (ix2 0 k)) := funext fun k => gainB x0 x1 x2 x3 x4 x5 x6 x7 x8 x9 x10 x11 x12 k
  have e3 : (fun k j => View.ld x5 r1_5 (ix2 k j)) = (fun k j => x5 (ix2 k j)) := by funext k j; pointwise
  rw [e1, e2, e3]

/-- Half B: the rows after the attention over the memory. -/
theorem attendB (r : Fin 512) (d : Fin 1024) : k1_pay50 x0 x1 x2 x3 x4 x5 x6 x7 x8 x9 x10 x11 x12 (ix2 r d) = rowAttend x0 x1 x2 x3 x4 x5 x6 x7 x8 ⟨512 + r.val, by omega⟩ d := by
  have eq : (fun d => k1_pay14 (k1_pay44 x0 x1 x2 x3 x4 x5 x6 x7 x8 x9 x10 x11 x12) (k1_pay47 x0 x1 x2 x3 x4 x5 x6 x7 x8 x9 x10 x11 x12) (k1_pay48 x0 x1 x2 x3 x4 x5 x6 x7 x8 x9 x10 x11 x12) (Scalar.ofBits .f32 0x44800000#32) (View.ld x5 r1_5) (ix2 r d))
      = fun d => lin (rms (rowMixed x0 x1 x2 x3 ⟨512 + r.val, by omega⟩) (fun k => x4 (ix2 0 k))) (fun k j => x5 (ix2 k j)) d * scale := funext fun d => queryB x0 x1 x2 x3 x4 x5 x6 x7 x8 x9 x10 x11 x12 r d
  unfold k1_pay50
  rw [pay27_eq, pay25_eq, proj_apply, mixedB x0 x1 x2 x3 x4 x5 x6 x7 x8 x9 x10 x11 x12 r d]
  unfold rowAttend attendK lin
  congr 1
  refine Finset.sum_congr rfl fun j _ => ?_
  congr 1
  · refine cat4_apply _ _ _ _ r (fun i => mix2 (scores (fun d => lin (rms (rowMixed x0 x1 x2 x3 ⟨512 + r.val, by omega⟩) (fun k => x4 (ix2 0 k))) (fun k j => x5 (ix2 k j)) d * scale) (fun k j => x6 (ix3 0 k j)) (headOf i)) fun k => x7 (ix3 0 k i)) ?_ ?_ ?_ ?_ j
    · intro e
      rw [soft_apply]
      simp only [pay15_apply]
      rw [eq]
      congr 1
      · rw [headOf_col]
      · funext k; unfold col; pointwise
    · intro e
      rw [soft_apply]
      simp only [pay16_apply]
      rw [eq]
      congr 1
      · rw [headOf_col]
      · funext k; unfold col; pointwise
    · intro e
      rw [soft_apply]
      simp only [pay17_apply]
      rw [eq]
      congr 1
      · rw [headOf_col]
      · funext k; unfold col; pointwise
    · intro e
      rw [soft_apply]
      simp only [pay18_apply]
      rw [eq]
      congr 1
      · rw [headOf_col]
      · funext k; unfold col; pointwise
  · pointwise

/-- Half B: the normalised row the feed-forward step reads. -/
theorem normB (r : Fin 512) (d : Fin 1024) :
    k1_pay54 x0 x1 x2 x3 x4 x5 x6 x7 x8 x9 x10 x11 x12 (ix2 r d) = rms (rowAttend x0 x1 x2 x3 x4 x5 x6 x7 x8 ⟨512 + r.val, by omega⟩) (fun k => x9 (ix2 0 k)) d := by
  unfold k1_pay54
  rw [pay31_apply]
  have e1 : (fun k => k1_pay50 x0 x1 x2 x3 x4 x5 x6 x7 x8 x9 x10 x11 x12 (ix2 r k)) = rowAttend x0 x1 x2 x3 x4 x5 x6 x7 x8 ⟨512 + r.val, by omega⟩ := funext fun k => attendB x0 x1 x2 x3 x4 x5 x6 x7 x8 x9 x10 x11 x12 r k
  rw [e1]

/-- Half B: the rows after the feed-forward step. -/
theorem feedB (r : Fin 512) (d : Fin 1024) :
    k1_pay40 (k1_pay54 x0 x1 x2 x3 x4 x5 x6 x7 x8 x9 x10 x11 x12) (k1_pay35 (k1_pay50 x0 x1 x2 x3 x4 x5 x6 x7 x8 x9 x10 x11 x12) (k1_pay54 x0 x1 x2 x3 x4 x5 x6 x7 x8 x9 x10 x11 x12) (k1_pay32 (k1_pay50 x0 x1 x2 x3 x4 x5 x6 x7 x8 x9 x10 x11 x12) (View.ld x9 r1_4) (View.ld x10 r1_10)) (View.ld x11 r1_11) (View.ld x10 r1_12) (View.ld x11 r1_13)) (k1_pay37 (k1_pay54 x0 x1 x2 x3 x4 x5 x6 x7 x8 x9 x10 x11 x12) (View.ld x10 r1_14)) (k1_pay38 (F := Ideal)) (View.ld x11 r1_15) (View.ld x10 r1_16) (View.ld x11 r1_17) (ix2 r d)
      = rowFeed x0 x1 x2 x3 x4 x5 x6 x7 x8 x9 x10 x11 ⟨512 + r.val, by omega⟩ d := by
  have e1 : (fun k => k1_pay54 x0 x1 x2 x3 x4 x5 x6 x7 x8 x9 x10 x11 x12 (ix2 r k)) = rms (rowAttend x0 x1 x2 x3 x4 x5 x6 x7 x8 ⟨512 + r.val, by omega⟩) (fun k => x9 (ix2 0 k)) :=
    funext fun k => normB x0 x1 x2 x3 x4 x5 x6 x7 x8 x9 x10 x11 x12 r k
  rw [pay40_apply, e1]
  unfold k1_pay54 at e1 ⊢
  rw [pay35_apply, e1, attendB x0 x1 x2 x3 x4 x5 x6 x7 x8 x9 x10 x11 x12 r d]
  rfl

/-- Half B: the rows stored. -/
theorem tailB (r : Fin 512) (d : Fin 1024) :
    k1_pay2 (k1_pay40 (k1_pay54 x0 x1 x2 x3 x4 x5 x6 x7 x8 x9 x10 x11 x12) (k1_pay35 (k1_pay50 x0 x1 x2 x3 x4 x5 x6 x7 x8 x9 x10 x11 x12) (k1_pay54 x0 x1 x2 x3 x4 x5 x6 x7 x8 x9 x10 x11 x12) (k1_pay32 (k1_pay50 x0 x1 x2 x3 x4 x5 x6 x7 x8 x9 x10 x11 x12) (View.ld x9 r1_4) (View.ld x10 r1_10)) (View.ld x11 r1_11) (View.ld x10 r1_12) (View.ld x11 r1_13)) (k1_pay37 (k1_pay54 x0 x1 x2 x3 x4 x5 x6 x7 x8 x9 x10 x11 x12) (View.ld x10 r1_14)) (k1_pay38 (F := Ideal)) (View.ld x11 r1_15) (View.ld x10 r1_16) (View.ld x11 r1_17)) (View.ld x12 r1_4) (ix2 r d) = rowTail x0 x1 x2 x3 x4 x5 x6 x7 x8 x9 x10 x11 x12 ⟨512 + r.val, by omega⟩ d := by
  rw [pay2_apply]
  have e1 : (fun k => k1_pay40 (k1_pay54 x0 x1 x2 x3 x4 x5 x6 x7 x8 x9 x10 x11 x12) (k1_pay35 (k1_pay50 x0 x1 x2 x3 x4 x5 x6 x7 x8 x9 x10 x11 x12) (k1_pay54 x0 x1 x2 x3 x4 x5 x6 x7 x8 x9 x10 x11 x12) (k1_pay32 (k1_pay50 x0 x1 x2 x3 x4 x5 x6 x7 x8 x9 x10 x11 x12) (View.ld x9 r1_4) (View.ld x10 r1_10)) (View.ld x11 r1_11) (View.ld x10 r1_12) (View.ld x11 r1_13)) (k1_pay37 (k1_pay54 x0 x1 x2 x3 x4 x5 x6 x7 x8 x9 x10 x11 x12) (View.ld x10 r1_14)) (k1_pay38 (F := Ideal)) (View.ld x11 r1_15) (View.ld x10 r1_16) (View.ld x11 r1_17) (ix2 r k)) = rowFeed x0 x1 x2 x3 x4 x5 x6 x7 x8 x9 x10 x11 ⟨512 + r.val, by omega⟩ := funext fun k => feedB x0 x1 x2 x3 x4 x5 x6 x7 x8 x9 x10 x11 x12 r k
  rw [e1]
  rfl

/-- The block stored at row `i`, column `d`: the tail of row `i` of the input blocks. -/
theorem out1_13_apply (i d : Fin 1024) : out1_13 x0 x1 x2 x3 x4 x5 x6 x7 x8 x9 x10 x11 x12 (ix2 i d) = rowTail x0 x1 x2 x3 x4 x5 x6 x7 x8 x9 x10 x11 x12 i d := by
  unfold out1_13
  canon_tiles y hy
  · obtain ⟨r, e, rfl⟩ : ∃ (r : Fin 512) (e : Fin 1024), y = ix2 r e := ⟨y 0, y 1, eq_ix2 y⟩
    refine (tailB x0 x1 x2 x3 x4 x5 x6 x7 x8 x9 x10 x11 x12 r e).trans ?_
    congr 1 <;> apply Fin.ext
    · exact hy0.symm
    · exact hy1.symm
  · obtain ⟨r, e, rfl⟩ : ∃ (r : Fin 512) (e : Fin 1024), y = ix2 r e := ⟨y 0, y 1, eq_ix2 y⟩
    refine (tailA x0 x1 x2 x3 x4 x5 x6 x7 x8 x9 x10 x11 x12 r e).trans ?_
    congr 1 <;> apply Fin.ext
    · exact hy0.symm
    · exact hy1.symm

end Cert.KernelIdeal.Post

end
-- ==== Proof.Kern.Array1.lean ====
/- UNTRUSTED — what the second kernel leaves in its array: every token's row, through the kernel's tail, from the arrays
   the kernel was entered with. -/
module

public import proofs.«01_k».proof.Proof.Kern.Block1
public import Idealize.ShloMosaic.Lib.Pipeline.ValueKit

@[expose] public section

set_option maxRecDepth 16384

noncomputable section

namespace Cert.KernelIdeal.Post

open Idealize.ShloMosaic Idealize.ShloMosaic.TcCoe Idealize.SL.Sem
open Idealize.ShloMosaic.Pipeline (Dat)
open Cert.KernelIdeal Cert.KernelIdeal.Gen Cert.Rows

variable (V : (c : Dev nD) → (b : Ref sig .tc) → Buf (Elt Ideal) ((c : Thread nD τ).loc b))

/-- The batch a token belongs to: 2048 tokens each. -/
def batchOf (r : Fin 32768) : Fin 16 := ⟨r.val / 2048, by omega⟩

/-- Every token's row through the kernel's tail, from the whole arrays. -/
def tails (x0 : Vec Ideal S32768x1024 .f32) (x1 : Vec Ideal S32768x512 .bf16) (x2 : Vec Ideal S32768x512 .bf16) (x3 : Vec Ideal S1024x1024 .bf16) (x4 : Vec Ideal S1x1024 .f32) (x5 : Vec Ideal S1024x1024 .bf16) (x6 : Vec Ideal S16x256x1024 .bf16) (x7 : Vec Ideal S16x256x1024 .bf16) (x8 : Vec Ideal S1024x1024 .bf16) (x9 : Vec Ideal S1x1024 .f32) (x10 : Vec Ideal S1024x4096 .bf16) (x11 : Vec Ideal S4096x1024 .bf16) (x12 : Vec Ideal S1x1024 .f32) : Vec Ideal S32768x1024 .f32 := fun i =>
  tailK scale (fun k => x0 (ix2 (i 0) k)) (fun k => x1 (ix2 (i 0) k)) (fun k => x2 (ix2 (i 0) k)) (fun k j => x3 (ix2 k j)) (fun k => x4 (ix2 0 k)) (fun k j => x5 (ix2 k j)) (fun k j => x6 (ix3 (batchOf (i 0)) k j)) (fun k j => x7 (ix3 (batchOf (i 0)) k j)) (fun k j => x8 (ix2 k j)) (fun k => x9 (ix2 0 k)) (fun k j => x10 (ix2 k j)) (fun k j => x11 (ix2 k j)) (fun k => x12 (ix2 0 k)) (i 1)

/-- Where each window's block lies at a grid point: blocks of 1024 tokens, and the memory of the batch they are in. -/
theorem idx0 : ∀ t : Fin cfg1.N, win1_0.index t = ![t.val, 0] := (by decide +kernel : ∀ t : Fin grid1.N, _)
theorem idx1 : ∀ t : Fin cfg1.N, win1_1.index t = ![t.val, 0] := (by decide +kernel : ∀ t : Fin grid1.N, _)
theorem idx2 : ∀ t : Fin cfg1.N, win1_2.index t = ![t.val, 0] := (by decide +kernel : ∀ t : Fin grid1.N, _)
theorem idx3 : ∀ t : Fin cfg1.N, win1_3.index t = ![0, 0] := (by decide +kernel : ∀ t : Fin grid1.N, _)
theorem idx4 : ∀ t : Fin cfg1.N, win1_4.index t = ![0, 0] := (by decide +kernel : ∀ t : Fin grid1.N, _)
theorem idx5 : ∀ t : Fin cfg1.N, win1_5.index t = ![0, 0] := (by decide +kernel : ∀ t : Fin grid1.N, _)
theorem idx6 : ∀ t : Fin cfg1.N, win1_6.index t = ![t.val / 2, 0, 0] := (by decide +kernel : ∀ t : Fin grid1.N, _)
theorem idx7 : ∀ t : Fin cfg1.N, win1_7.index t = ![t.val / 2, 0, 0] := (by decide +kernel : ∀ t : Fin grid1.N, _)
theorem idx8 : ∀ t : Fin cfg1.N, win1_8.index t = ![0, 0] := (by decide +kernel : ∀ t : Fin grid1.N, _)
theorem idx9 : ∀ t : Fin cfg1.N, win1_9.index t = ![0, 0] := (by decide +kernel : ∀ t : Fin grid1.N, _)
theorem idx10 : ∀ t : Fin cfg1.N, win1_10.index t = ![0, 0] := (by decide +kernel : ∀ t : Fin grid1.N, _)
theorem idx11 : ∀ t : Fin cfg1.N, win1_11.index t = ![0, 0] := (by decide +kernel : ∀ t : Fin grid1.N, _)
theorem idx12 : ∀ t : Fin cfg1.N, win1_12.index t = ![0, 0] := (by decide +kernel : ∀ t : Fin grid1.N, _)
theorem idx13 : ∀ t : Fin cfg1.N, win1_13.index t = ![t.val, 0] := (by decide +kernel : ∀ t : Fin grid1.N, _)

/-- The token that row `r` of grid point `t`'s block is. -/
def token (t : Fin cfg1.N) (r : Fin 1024) : Fin 32768 := ⟨t.val * 1024 + r.val, by have := t.isLt; have h : cfg1.N = 32 := N_1; omega⟩

/-- The batch grid point `t` reads the memory of. -/
def batch (t : Fin cfg1.N) : Fin 16 := ⟨t.val / 2, by have := t.isLt; have h : cfg1.N = 32 := N_1; omega⟩

theorem batchOf_token (t : Fin cfg1.N) (r : Fin 1024) : batchOf (token t r) = batch t := by
  apply Fin.ext; simp only [batchOf, token, batch]; omega

/-- What each window's block holds, read from its array. -/
theorem read0 (c : Dev nD) (t : Fin cfg1.N) (r : Fin 1024) (k : Fin 1024) : iblk1 V c 0 t (ix2 r k) = V c main_v0 (ix2 (token t r) k) := by
  unfold token; blk_ext [iblk1, idx0 t]
theorem read1 (c : Dev nD) (t : Fin cfg1.N) (r : Fin 1024) (k : Fin 512) : iblk1 V c 1 t (ix2 r k) = V c main_arg2 (ix2 (token t r) k) := by
  unfold token; blk_ext [iblk1, idx1 t]
theorem read2 (c : Dev nD) (t : Fin cfg1.N) (r : Fin 1024) (k : Fin 512) : iblk1 V c 2 t (ix2 r k) = V c main_arg3 (ix2 (token t r) k) := by
  unfold token; blk_ext [iblk1, idx2 t]
theorem read3 (c : Dev nD) (t : Fin cfg1.N) (k : Fin 1024) (j : Fin 1024) : iblk1 V c 3 t (ix2 k j) = V c main_v2 (ix2 k j) := by
  blk_ext [iblk1, idx3 t]
theorem read4 (c : Dev nD) (t : Fin cfg1.N) (k : Fin 1024) : iblk1 V c 4 t (ix2 0 k) = V c main_v17 (ix2 0 k) := by
  blk_ext [iblk1, idx4 t]
theorem read5 (c : Dev nD) (t : Fin cfg1.N) (k : Fin 1024) (j : Fin 1024) : iblk1 V c 5 t (ix2 k j) = V c main_v4 (ix2 k j) := by
  blk_ext [iblk1, idx5 t]
theorem read6 (c : Dev nD) (t : Fin cfg1.N) (k : Fin 256) (j : Fin 1024) : iblk1 V c 6 t (ix3 0 k j) = V c main_v15_0 (ix3 (batch t) k j) := by
  unfold batch; blk_ext [iblk1, idx6 t]
theorem read7 (c : Dev nD) (t : Fin cfg1.N) (k : Fin 256) (j : Fin 1024) : iblk1 V c 7 t (ix3 0 k j) = V c main_v15_1 (ix3 (batch t) k j) := by
  unfold batch; blk_ext [iblk1, idx7 t]
theorem read8 (c : Dev nD) (t : Fin cfg1.N) (k : Fin 1024) (j : Fin 1024) : iblk1 V c 8 t (ix2 k j) = V c main_v8 (ix2 k j) := by
  blk_ext [iblk1, idx8 t]
theorem read9 (c : Dev nD) (t : Fin cfg1.N) (k : Fin 1024) : iblk1 V c 9 t (ix2 0 k) = V c main_v19 (ix2 0 k) := by
  blk_ext [iblk1, idx9 t]
theorem read10 (c : Dev nD) (t : Fin cfg1.N) (k : Fin 1024) (j : Fin 4096) : iblk1 V c 10 t (ix2 k j) = V c main_v10 (ix2 k j) := by
  blk_ext [iblk1, idx10 t]
theorem read11 (c : Dev nD) (t : Fin cfg1.N) (k : Fin 4096) (j : Fin 1024) : iblk1 V c 11 t (ix2 k j) = V c main_v12 (ix2 k j) := by
  blk_ext [iblk1, idx11 t]
theorem read12 (c : Dev nD) (t : Fin cfg1.N) (k : Fin 1024) : iblk1 V c 12 t (ix2 0 k) = V c main_v20 (ix2 0 k) := by
  blk_ext [iblk1, idx12 t]

/-- Where row `r`, column `d` of the stored block lies in the array. -/
theorem place (t : Fin cfg1.N) (r d : Fin 1024) : (((cfg1.win 13).blk t).view.emb (ix2 r d) : S32768x1024.Idx) = ix2 (token t r) d := by
  unfold token; blk_ext [idx13 t]

/-- The result array after the second kernel. -/
theorem arr13 (c : Dev nD) : (dat1 V c).arrAt 13 cfg1.N = tails (V c main_v0) (V c main_arg2) (V c main_arg3) (V c main_v2) (V c main_v17) (V c main_v4) (V c main_v15_0) (V c main_v15_1) (V c main_v8) (V c main_v19) (V c main_v10) (V c main_v12) (V c main_v20) := by
  refine (dat1 V c).arrAt_eq_of_covers 13 _ (by decide +kernel) fun t hf y => ?_
  blk_simp
  rw [after1_13]
  obtain ⟨r, d, rfl⟩ : ∃ (r : Fin 1024) (d : Fin 1024), y = ix2 r d := ⟨y 0, y 1, eq_ix2 y⟩
  refine ((out1_13_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) r d).trans ?_).trans (congrArg (tails (V c main_v0) (V c main_arg2) (V c main_arg3) (V c main_v2) (V c main_v17) (V c main_v4) (V c main_v15_0) (V c main_v15_1) (V c main_v8) (V c main_v19) (V c main_v10) (V c main_v12) (V c main_v20)) (place t r d)).symm
  unfold rowTail
  simp only [read0, read1, read2, read3, read4, read5, read6, read7, read8, read9, read10, read11, read12]
  rw [← batchOf_token t r]
  rfl

end Cert.KernelIdeal.Post

end
-- ==== Proof.Kern.Entry.lean ====
/- UNTRUSTED — the arrays the two kernels are entered with, read back to the arguments through the host's reshapes and
   casts, and the result array as one function of the arguments. -/
module

public import proofs.«01_k».proof.Proof.Kern.Array0
public import proofs.«01_k».proof.Proof.Kern.Array1

@[expose] public section

set_option maxRecDepth 16384

noncomputable section

namespace Cert.KernelIdeal.Post

open Idealize.ShloMosaic Idealize.ShloMosaic.TcCoe Idealize.SL.Sem
open Cert.KernelIdeal Cert.KernelIdeal.Gen Cert.Rows

variable (m : (ℓ : Loc nD τ sig) → Buf (Elt Ideal) ℓ) (ρ : Dev nD → PrngReg)

/-- The place of a token in its batch. -/
def stepOf (r : Fin 32768) : Fin 2048 := ⟨r.val % 2048, by omega⟩

/-- The arrays the host prepares before the first kernel, at an index. -/
theorem host0 (c : Dev nD) (r : Fin 32768) (d : Fin 1024) :
    W1 m ρ c (Proc.devRef .tc main_v0) (ix2 r d) = m ((c : Thread nD τ).loc main_arg0) (ix3 (batchOf r) (stepOf r) d) := by
  unfold batchOf stepOf
  after_results
  pointwise
theorem host2 (c : Dev nD) (k : Fin 1024) (j : Fin 1024) :
    W1 m ρ c (Proc.devRef .tc main_v2) (ix2 k j) = m ((c : Thread nD τ).loc main_arg4) (ix3 0 k j) := by
  after_results
  pointwise
theorem host4 (c : Dev nD) (k : Fin 1024) (j : Fin 1024) :
    W1 m ρ c (Proc.devRef .tc main_v4) (ix2 k j) = m ((c : Thread nD τ).loc main_arg7) (ix3 0 k j) := by
  after_results
  pointwise
theorem host6 (c : Dev nD) (k : Fin 1024) (j : Fin 2048) :
    W1 m ρ c (Proc.devRef .tc main_v6) (ix2 k j) = m ((c : Thread nD τ).loc main_arg8) (ix3 0 k j) := by
  after_results
  pointwise
theorem host8 (c : Dev nD) (k : Fin 1024) (j : Fin 1024) :
    W1 m ρ c (Proc.devRef .tc main_v8) (ix2 k j) = m ((c : Thread nD τ).loc main_arg9) (ix3 0 k j) := by
  after_results
  pointwise
theorem host10 (c : Dev nD) (k : Fin 1024) (j : Fin 4096) :
    W1 m ρ c (Proc.devRef .tc main_v10) (ix2 k j) = m ((c : Thread nD τ).loc main_arg11) (ix3 0 k j) := by
  after_results
  pointwise
theorem host12 (c : Dev nD) (k : Fin 4096) (j : Fin 1024) :
    W1 m ρ c (Proc.devRef .tc main_v12) (ix2 k j) = m ((c : Thread nD τ).loc main_arg12) (ix3 0 k j) := by
  after_results
  pointwise
theorem host14 (c : Dev nD) (k : Fin 1024) : W1 m ρ c (Proc.devRef .tc main_v14) (ix2 0 k) = m ((c : Thread nD τ).loc main_arg6) (ix2 0 k) := by
  after_results
  pointwise

/-- The gains the host prepares before the second kernel, at an index. -/
theorem host17 (c : Dev nD) (k : Fin 1024) : W3 m ρ c (Proc.devRef .tc main_v17) (ix2 0 k) = m ((c : Thread nD τ).loc main_arg5) (ix2 0 k) := by
  after_results
  rw [W2_args m ρ c main_arg5 (by decide)]
  pointwise
theorem host19 (c : Dev nD) (k : Fin 1024) : W3 m ρ c (Proc.devRef .tc main_v19) (ix2 0 k) = m ((c : Thread nD τ).loc main_arg10) (ix2 0 k) := by
  after_results
  rw [W2_args m ρ c main_arg10 (by decide)]
  pointwise
theorem host20 (c : Dev nD) (k : Fin 1024) : W3 m ρ c (Proc.devRef .tc main_v20) (ix2 0 k) = m ((c : Thread nD τ).loc main_arg13) (ix1 k) := by
  after_results
  rw [W2_args m ρ c main_arg13 (by decide)]
  pointwise

/-- What the host prepared before the first kernel is still there when the second is entered. -/
theorem kept0 (c : Dev nD) : W3 m ρ c (Proc.devRef .tc main_v0) = W1 m ρ c (Proc.devRef .tc main_v0) :=
  (W3_of m ρ c main_v0 (by decide)).trans (W2_of m ρ c main_v0 (by decide +kernel))
theorem kept2 (c : Dev nD) : W3 m ρ c (Proc.devRef .tc main_v2) = W1 m ρ c (Proc.devRef .tc main_v2) :=
  (W3_of m ρ c main_v2 (by decide)).trans (W2_of m ρ c main_v2 (by decide +kernel))
theorem kept4 (c : Dev nD) : W3 m ρ c (Proc.devRef .tc main_v4) = W1 m ρ c (Proc.devRef .tc main_v4) :=
  (W3_of m ρ c main_v4 (by decide)).trans (W2_of m ρ c main_v4 (by decide +kernel))
theorem kept8 (c : Dev nD) : W3 m ρ c (Proc.devRef .tc main_v8) = W1 m ρ c (Proc.devRef .tc main_v8) :=
  (W3_of m ρ c main_v8 (by decide)).trans (W2_of m ρ c main_v8 (by decide +kernel))
theorem kept10 (c : Dev nD) : W3 m ρ c (Proc.devRef .tc main_v10) = W1 m ρ c (Proc.devRef .tc main_v10) :=
  (W3_of m ρ c main_v10 (by decide)).trans (W2_of m ρ c main_v10 (by decide +kernel))
theorem kept12 (c : Dev nD) : W3 m ρ c (Proc.devRef .tc main_v12) = W1 m ρ c (Proc.devRef .tc main_v12) :=
  (W3_of m ρ c main_v12 (by decide)).trans (W2_of m ρ c main_v12 (by decide +kernel))

/-- The keys the second kernel is entered with. -/
theorem kv3 (c : Dev nD) : W3 m ρ c (Proc.devRef .tc main_v15_0) = Memkv.keys (V1 m ρ c main_arg1) (V1 m ρ c main_v14) (V1 m ρ c main_v6) :=
  (W3_of m ρ c main_v15_0 (by decide)).trans ((W2_arr m ρ c 3).trans (Memkv.arr3 (V1 m ρ) c))

/-- The values the second kernel is entered with. -/
theorem kv4 (c : Dev nD) : W3 m ρ c (Proc.devRef .tc main_v15_1) = Memkv.vals (V1 m ρ c main_arg1) (V1 m ρ c main_v14) (V1 m ρ c main_v6) :=
  (W3_of m ρ c main_v15_1 (by decide)).trans ((W2_arr m ρ c 4).trans (Memkv.arr4 (V1 m ρ) c))

/-- The kernel's result as one function of the arguments: every token's row through the kernel's tail. -/
def value (a0 : Vec Ideal S16x2048x1024 .f32) (a1 : Vec Ideal S16x256x1024 .f32) (a2 : Vec Ideal S32768x512 .bf16) (a3 : Vec Ideal S32768x512 .bf16) (a4 : Vec Ideal S1x1024x1024 .f32) (a5 : Vec Ideal S1x1024 .f32) (a6 : Vec Ideal S1x1024 .f32) (a7 : Vec Ideal S1x1024x1024 .f32) (a8 : Vec Ideal S1x1024x2048 .f32) (a9 : Vec Ideal S1x1024x1024 .f32) (a10 : Vec Ideal S1x1024 .f32) (a11 : Vec Ideal S1x1024x4096 .f32) (a12 : Vec Ideal S1x4096x1024 .f32) (a13 : Vec Ideal S1024 .f32) : Vec Ideal S32768x1024 .f32 := fun i =>
  tailK scale (fun k => a0 (ix3 (batchOf (i 0)) (stepOf (i 0)) k)) (fun k => a2 (ix2 (i 0) k)) (fun k => a3 (ix2 (i 0) k)) (fun k j => a4 (ix3 0 k j)) (fun k => a5 (ix2 0 k)) (fun k j => a7 (ix3 0 k j))
    (fun k j => lin (rms (fun d => a1 (ix3 (batchOf (i 0)) k d)) fun d => a6 (ix2 0 d)) (fun d (j : Fin 1024) => a8 (ix3 0 d ⟨j.val, by omega⟩)) j)
    (fun k j => lin (rms (fun d => a1 (ix3 (batchOf (i 0)) k d)) fun d => a6 (ix2 0 d)) (fun d (j : Fin 1024) => a8 (ix3 0 d ⟨1024 + j.val, by omega⟩)) j)
    (fun k j => a9 (ix3 0 k j)) (fun k => a10 (ix2 0 k)) (fun k j => a11 (ix3 0 k j)) (fun k j => a12 (ix3 0 k j)) (fun k => a13 (ix1 k)) (i 1)

/-- The result array after the run. -/
theorem result (c : Dev nD) : W4 m ρ c (Proc.devRef .tc main_v21)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W4_arr m ρ c 13).trans (arr13 (V3 m ρ) c)).trans ?_
  funext i
  obtain ⟨r, d, rfl⟩ : ∃ (r : Fin 32768) (d : Fin 1024), i = ix2 r d := ⟨i 0, i 1, eq_ix2 i⟩
  unfold tails value
  congr 1
  case e_x =>
    funext k; rw [show V3 m ρ c main_v0 = _ from kept0 m ρ c]; exact host0 m ρ c r k
  case e_w =>
    funext k j; rw [show V3 m ρ c main_v2 = _ from kept2 m ρ c]; exact host2 m ρ c k j
  case e_gx =>
    funext k; exact host17 m ρ c k
  case e_wq =>
    funext k j; rw [show V3 m ρ c main_v4 = _ from kept4 m ρ c]; exact host4 m ρ c k j
  case e_K =>
    funext k j; rw [show V3 m ρ c main_v15_0 = _ from kv3 m ρ c]
    unfold Memkv.keys
    congr 1
    · congr 1
      funext d; exact host14 m ρ c d
    · funext d j; exact host6 m ρ c d _
  case e_V =>
    funext k j; rw [show V3 m ρ c main_v15_1 = _ from kv4 m ρ c]
    unfold Memkv.vals
    congr 1
    · congr 1
      funext d; exact host14 m ρ c d
    · funext d j; exact host6 m ρ c d _
  case e_wo =>
    funext k j; rw [show V3 m ρ c main_v8 = _ from kept8 m ρ c]; exact host8 m ρ c k j
  case e_gm =>
    funext k; exact host19 m ρ c k
  case e_wu =>
    funext k j; rw [show V3 m ρ c main_v10 = _ from kept10 m ρ c]; exact host10 m ρ c k j
  case e_wd =>
    funext k j; rw [show V3 m ρ c main_v12 = _ from kept12 m ρ c]; exact host12 m ρ c k j
  case e_gf =>
    funext k; exact host20 m ρ c k

end Cert.KernelIdeal.Post

end
-- ==== Proof.Ref.Parts.lean ====
/- UNTRUSTED — the reference's named intermediate arrays read at an index: the row functions of Rows/Spec.lean. -/
module

public import proofs.«01_k».proof.Proof.Gen.ReferenceIdeal.Run
public import proofs.«01_k».proof.Proof.Rows.Spec
public import proofs.«01_k».proof.Proof.Consts
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Cert.Rows

variable (V0 : Valuation τ sig (Elt Ideal))

/-- The named arrays' elements, as extended reals. -/
abbrev at7 (b : Fin 16) (t : Fin 2048) (d : Fin 1024) : EReal := res_main_v7 V0 (ix3 b t d)
abbrev at40 (b : Fin 16) (k : Fin 256) (j : Fin 2048) : EReal := res_main_v40 V0 (ix3 b k j)
abbrev at47 (b : Fin 16) (h : Fin 4) (t : Fin 2048) (k : Fin 256) : EReal := res_main_v47 V0 (ix4 b h t k)
abbrev at54 (b : Fin 16) (h : Fin 4) (t : Fin 2048) (k : Fin 256) : EReal := res_main_v54 V0 (ix4 b h t k)
abbrev at64 (b : Fin 16) (t : Fin 2048) (d : Fin 1024) : EReal := res_main_v64 V0 (ix3 b t d)
abbrev at81 (b : Fin 16) (t : Fin 2048) (u : Fin 4096) : EReal := res_main_v81 V0 (ix3 b t u)
abbrev at85 (b : Fin 16) (t : Fin 2048) (d : Fin 1024) : EReal := res_main_v85 V0 (ix3 b t d)

theorem v7_apply (b : Fin 16) (t : Fin 2048) (d : Fin 1024) :
    at7 V0 b t d
      = mixedR (fun k => V0 (Proc.devRef .tc main_arg0) (ix3 b t k)) (fun k => V0 (Proc.devRef .tc main_arg2) (ix2 ⟨b.val * 2048 + t.val, by omega⟩ k))
          (fun k => V0 (Proc.devRef .tc main_arg3) (ix2 ⟨b.val * 2048 + t.val, by omega⟩ k)) (fun k j => V0 (Proc.devRef .tc main_arg4) (ix3 0 k j)) d := by
  unfold at7 res_main_v7 mixedR
  clean_types
  pointwise

theorem v40_apply (b : Fin 16) (k : Fin 256) (j : Fin 2048) :
    at40 V0 b k j
      = lin (rms (fun d => V0 (Proc.devRef .tc main_arg1) (ix3 b k d)) fun d => V0 (Proc.devRef .tc main_arg6) (ix2 0 d))
          (fun d j => V0 (Proc.devRef .tc main_arg8) (ix3 0 d j)) j := by
  unfold at40 res_main_v40 lin rms Rows.inv
  clean_types
  pointwise

/-- Column `e` of head `h`, with the factors the other way round. -/
theorem col_eq (h : Fin 4) (e : Fin 256) (p : h.val * 256 + e.val < 1024) : (⟨h.val * 256 + e.val, p⟩ : Fin 1024) = col h e :=
  Fin.ext (by simp [col, mul_comm])
theorem col_eq' (h : Fin 4) (e : Fin 256) (p : h.val * 256 + e.val < 2048) : (⟨h.val * 256 + e.val, p⟩ : Fin 2048) = ⟨(col h e).val, by omega⟩ :=
  Fin.ext (by simp [col, mul_comm])

theorem v47_apply (b : Fin 16) (h : Fin 4) (t : Fin 2048) (k : Fin 256) :
    at47 V0 b h t k
      = scores (lin (rms (fun d => at7 V0 b t d) fun d => V0 (Proc.devRef .tc main_arg5) (ix2 0 d)) fun d j => V0 (Proc.devRef .tc main_arg7) (ix3 0 d j))
          (fun k j => at40 V0 b k ⟨j.val, by omega⟩) h k * ((1 / 16 : ℝ) : EReal) := by
  unfold at47 at7 at40 res_main_v47 scores lin rms Rows.inv
  clean_types
  pointwise
  simp only [col_eq, col_eq', Consts.ofBits_sixteenth]

/-- The greatest score of a row, as the reference's reduction writes it. -/
theorem reduce_apply (y : FVec Ideal S16x4x2048x256 .f32) (b : Fin 16) (h : Fin 4) (t : Fin 2048) :
    Host.reduce FloatOps.maximumf y (constant S_ .f32 0xFF800000#32) reducesTo_S16x4x2048x256_S16x4x2048_d3 h_S_ (ix3 b h t)
      = Finset.fold max (Ideal.ofBits .f32 0xFF800000#32) (fun k => y (ix4 b h t k)) Finset.univ := by
  pointwise

/-- The exponential of a score less its row's greatest, for any arrays. -/
theorem exp_apply (y : FVec Ideal S16x4x2048x256 .f32) (z : FVec Ideal S16x4x2048 .f32) (b : Fin 16) (h : Fin 4) (t : Fin 2048) (k : Fin 256) :
    Host.exp (subf y (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) z)))) (ix4 b h t k)
      = Ideal.exp (y (ix4 b h t k) - max (Ideal.ofBits .f32 0xFF800000#32) (z (ix3 b h t))) := by
  pointwise

theorem v54_apply (b : Fin 16) (h : Fin 4) (t : Fin 2048) (k : Fin 256) :
    at54 V0 b h t k = Ideal.exp (at47 V0 b h t k - top fun l => at47 V0 b h t l) := by
  unfold at54 res_main_v54
  refine (exp_apply (res_main_v47 V0) _ b h t k).trans ?_
  rw [reduce_apply, Consts.ofBits_bot, max_eq_right bot_le]
  rfl

/-- The weighted sum over the memory for any weights, reshaped, projected and added to the row. -/
theorem v64_apply (b : Fin 16) (t : Fin 2048) (d : Fin 1024) :
    at64 V0 b t d
      = at7 V0 b t d
        + lin (fun i => mix (fun k => at47 V0 b (headOf i) t k) fun k => at40 V0 b k ⟨1024 + i.val, by omega⟩)
            (fun d j => V0 (Proc.devRef .tc main_arg9) (ix3 0 d j)) d := by
  have e : ∀ (h : Fin 4) (k : Fin 256), res_main_v54 V0 (ix4 b h t k) = Ideal.exp (at47 V0 b h t k - top fun l => at47 V0 b h t l) :=
    fun h k => v54_apply V0 b h t k
  unfold at64 res_main_v64 lin mix
  clean_types
  pointwise
  simp only [e]
  congr 1
  refine Finset.sum_congr rfl fun x _ => ?_
  congr 1
  refine Finset.sum_congr rfl fun k _ => ?_
  rw [mul_comm]
  rfl

theorem v81_apply (b : Fin 16) (t : Fin 2048) (u : Fin 4096) :
    at81 V0 b t u
      = max (lin (rms (fun d => at64 V0 b t d) fun d => V0 (Proc.devRef .tc main_arg10) (ix2 0 d)) (fun d j => V0 (Proc.devRef .tc main_arg11) (ix3 0 d j)) u) 0 := by
  unfold at81 at64 res_main_v81 lin rms Rows.inv
  clean_types
  pointwise

theorem v85_apply (b : Fin 16) (t : Fin 2048) (d : Fin 1024) :
    at85 V0 b t d
      = at64 V0 b t d + ∑ u : Fin 4096, at81 V0 b t u * at81 V0 b t u * V0 (Proc.devRef .tc main_arg12) (ix3 0 u d) := by
  unfold at85 at64 at81 res_main_v85
  clean_types
  pointwise

/-- One row of the reference before its last normalisation is the reference's tail of that token. -/
theorem v85_row (b : Fin 16) (t : Fin 2048) :
    (fun d => at85 V0 b t d)
      = feedR (attendR ((1 / 16 : ℝ) : EReal)
            (mixedR (fun k => V0 (Proc.devRef .tc main_arg0) (ix3 b t k)) (fun k => V0 (Proc.devRef .tc main_arg2) (ix2 ⟨b.val * 2048 + t.val, by omega⟩ k))
              (fun k => V0 (Proc.devRef .tc main_arg3) (ix2 ⟨b.val * 2048 + t.val, by omega⟩ k)) (fun k j => V0 (Proc.devRef .tc main_arg4) (ix3 0 k j)))
            (fun d => V0 (Proc.devRef .tc main_arg5) (ix2 0 d)) (fun d j => V0 (Proc.devRef .tc main_arg7) (ix3 0 d j))
            (fun k j => at40 V0 b k ⟨j.val, by omega⟩) (fun k j => at40 V0 b k ⟨1024 + j.val, by omega⟩)
            (fun d j => V0 (Proc.devRef .tc main_arg9) (ix3 0 d j)))
          (fun d => V0 (Proc.devRef .tc main_arg10) (ix2 0 d)) (fun d j => V0 (Proc.devRef .tc main_arg11) (ix3 0 d j))
          (fun u d => V0 (Proc.devRef .tc main_arg12) (ix3 0 u d)) := by
  have e7 : (fun d => at7 V0 b t d) = _ := funext fun d => v7_apply V0 b t d
  have e64 : (fun d => at64 V0 b t d) = attendR ((1 / 16 : ℝ) : EReal) (fun d => at7 V0 b t d)
      (fun d => V0 (Proc.devRef .tc main_arg5) (ix2 0 d)) (fun d j => V0 (Proc.devRef .tc main_arg7) (ix3 0 d j))
      (fun k j => at40 V0 b k ⟨j.val, by omega⟩) (fun k j => at40 V0 b k ⟨1024 + j.val, by omega⟩)
      (fun d j => V0 (Proc.devRef .tc main_arg9) (ix3 0 d j)) := by
    funext d
    rw [v64_apply]
    simp only [v47_apply]
    rfl
  rw [← e7, ← e64]
  funext d
  rw [v85_apply]
  simp only [v81_apply]
  rfl

end Cert.ReferenceIdeal.Value

end
-- ==== Proof.Ref.Value.lean ====
/- UNTRUSTED — the reference's result at an index: the last normalisation of the rows read in Ref/Parts.lean. -/
module

public import proofs.«01_k».proof.Proof.Ref.Parts

@[expose] public section

set_option maxRecDepth 16384

noncomputable section

namespace Cert.ReferenceIdeal.Value

open Cert.ReferenceIdeal Cert.ReferenceIdeal.Gen Idealize.ShloMosaic Idealize.ShloMosaic.TcCoe Cert.Rows

/-- The last normalisation of any array of rows, with the batches and their tokens joined. -/
theorem last_apply (y : FVec Ideal S16x2048x1024 .f32) (g : FVec Ideal S1024 .f32) (r : Fin 32768) (d : Fin 1024) :
    shapeCast S32768x1024 (mulf (mulf y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf y y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 g))) shapeCasts_S16x2048x1024_S32768x1024 (ix2 r d)
      = rms (fun e => y (ix3 (⟨r.val / 2048, by omega⟩ : Fin 16) (⟨r.val % 2048, by omega⟩ : Fin 2048) e)) (fun e => g (ix1 e)) d := by
  unfold rms Rows.inv
  pointwise

variable (V0 : Valuation τ sig (Elt Ideal))

/-- The reference's result at a token and a column: the reference's tail of that token's row. -/
theorem value_apply (r : Fin 32768) (d : Fin 1024) :
    rms (fun e => at85 V0 (⟨r.val / 2048, by omega⟩ : Fin 16) (⟨r.val % 2048, by omega⟩ : Fin 2048) e) (fun e => V0 (Proc.devRef .tc main_arg13) (ix1 e)) d
      = tailR ((1 / 16 : ℝ) : EReal) (fun k => V0 (Proc.devRef .tc main_arg0) (ix3 ⟨r.val / 2048, by omega⟩ ⟨r.val % 2048, by omega⟩ k))
          (fun k => V0 (Proc.devRef .tc main_arg2) (ix2 r k)) (fun k => V0 (Proc.devRef .tc main_arg3) (ix2 r k))
          (fun k j => V0 (Proc.devRef .tc main_arg4) (ix3 0 k j)) (fun k => V0 (Proc.devRef .tc main_arg5) (ix2 0 k))
          (fun k j => V0 (Proc.devRef .tc main_arg7) (ix3 0 k j))
          (fun k j => lin (rms (fun e => V0 (Proc.devRef .tc main_arg1) (ix3 ⟨r.val / 2048, by omega⟩ k e)) fun e => V0 (Proc.devRef .tc main_arg6) (ix2 0 e))
            (fun e (j : Fin 1024) => V0 (Proc.devRef .tc main_arg8) (ix3 0 e ⟨j.val, by omega⟩)) j)
          (fun k j => lin (rms (fun e => V0 (Proc.devRef .tc main_arg1) (ix3 ⟨r.val / 2048, by omega⟩ k e)) fun e => V0 (Proc.devRef .tc main_arg6) (ix2 0 e))
            (fun e (j : Fin 1024) => V0 (Proc.devRef .tc main_arg8) (ix3 0 e ⟨1024 + j.val, by omega⟩)) j)
          (fun k j => V0 (Proc.devRef .tc main_arg9) (ix3 0 k j)) (fun k => V0 (Proc.devRef .tc main_arg10) (ix2 0 k))
          (fun k j => V0 (Proc.devRef .tc main_arg11) (ix3 0 k j)) (fun k j => V0 (Proc.devRef .tc main_arg12) (ix3 0 k j))
          (fun k => V0 (Proc.devRef .tc main_arg13) (ix1 k)) d := by
  have hr : (⟨r.val / 2048 * 2048 + r.val % 2048, by omega⟩ : Fin 32768) = r := Fin.ext (by dsimp only; omega)
  rw [v85_row]
  unfold tailR
  simp only [v40_apply, hr]
  rfl

end Cert.ReferenceIdeal.Value

end
-- ==== Proof.Rows.Algebra.lean ====
/- UNTRUSTED — the row functions of the kernel and of the reference are equal: a base-2 softmax of scores scaled by
   `1 / (16 ln 2)` is the softmax of scores scaled by `1 / 16`; a sum in slabs is the sum. All on the extended reals,
   infinities included. -/
module

public import proofs.«01_k».proof.Proof.Rows.Spec
public import Idealize.ShloMosaic.Lib.Pointwise

@[expose] public section

noncomputable section

namespace Cert.Rows

open Idealize.ShloMosaic

/-- A finite sum times a real that is not negative is the sum of the products, whatever infinities it holds. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The greatest of scores scaled by a positive real is the greatest score, scaled. -/
theorem top_mul (s : Fin 256 → EReal) (r : ℝ) (hr : 0 < r) : top (fun k => s k * (r : EReal)) = top s * (r : EReal) := by
  have hmono : Monotone fun z : EReal => z * (r : EReal) := fun a b h =>
    mul_le_mul_of_nonneg_right h (by exact_mod_cast hr.le)
  unfold top
  have key : ∀ t : Finset (Fin 256), t.fold max ⊥ (fun k => s k * (r : EReal)) = t.fold max ⊥ s * (r : EReal) := by
    intro t
    induction t using Finset.induction_on with
    | empty => simp [EReal.bot_mul_coe_of_pos hr]
    | insert a t ha ih =>
      rw [Finset.fold_insert ha, Finset.fold_insert ha, ih]
      exact (hmono.map_max).symm
  exact key _

/-- A difference of scaled scores is the difference, scaled. -/
theorem sub_mul_real (a b : EReal) (r : ℝ) (hr : 0 ≤ r) : a * (r : EReal) - b * (r : EReal) = (a - b) * (r : EReal) := by
  rw [sub_eq_add_neg, sub_eq_add_neg, EReal.right_distrib_of_nonneg_of_ne_top (by exact_mod_cast hr) (EReal.coe_ne_top r),
    EReal.neg_mul]

/-- Two to the power of `z / ln 2` is the exponential of `z`. -/
theorem exp2_mul_inv_log (z : EReal) : Ideal.exp2 (z * (((Real.log 2)⁻¹ : ℝ) : EReal)) = Ideal.exp z := by
  have hl : 0 < Real.log 2 := Real.log_pos (by norm_num)
  have hp : 0 < (Real.log 2)⁻¹ := inv_pos.mpr hl
  induction z with
  | bot => rw [EReal.bot_mul_coe_of_pos hp]; rfl
  | top => rw [EReal.top_mul_coe_of_pos hp]; rfl
  | coe z =>
    rw [← EReal.coe_mul]
    show ((Real.rpow 2 (z * (Real.log 2)⁻¹) : ℝ) : EReal) = ((Real.exp z : ℝ) : EReal)
    congr 1
    rw [Real.rpow_eq_pow, Real.rpow_def_of_pos (by norm_num)]
    congr 1
    field_simp

/-- The scores of a query row scaled by a positive real are the scores, scaled. -/
theorem scores_scale (q : Fin 1024 → EReal) (K : Fin 256 → Fin 1024 → EReal) (h : Fin 4) (k : Fin 256) (r : ℝ) (hr : 0 ≤ r) :
    scores (fun d => q d * (r : EReal)) K h k = scores q K h k * (r : EReal) := by
  unfold scores
  rw [sum_mul_real _ _ r hr]
  refine Finset.sum_congr rfl fun e _ => ?_
  rw [mul_assoc, mul_assoc, mul_comm (r : EReal)]

/-- The base-2 softmax of scores scaled by `1 / ln 2` is the softmax. -/
theorem mix2_eq (s v : Fin 256 → EReal) :
    mix2 (fun k => s k * (((Real.log 2)⁻¹ : ℝ) : EReal)) v = mix s v := by
  have hp : 0 < (Real.log 2)⁻¹ := inv_pos.mpr (Real.log_pos (by norm_num))
  unfold mix2 mix
  simp only [top_mul s _ hp, sub_mul_real _ _ _ hp.le, exp2_mul_inv_log]

/-- The attention step: the kernel's, with queries scaled by `1 / (16 ln 2)`, is the reference's, with scores scaled by `1 / 16`. -/
theorem attend_eq (x g : Fin 1024 → EReal) (wq : Fin 1024 → Fin 1024 → EReal) (K V : Fin 256 → Fin 1024 → EReal)
    (wo : Fin 1024 → Fin 1024 → EReal) :
    attendK (((Real.log 2)⁻¹ * (1 / 16) : ℝ) : EReal) x g wq K V wo = attendR (((1 / 16 : ℝ)) : EReal) x g wq K V wo := by
  have hp : 0 < (Real.log 2)⁻¹ := inv_pos.mpr (Real.log_pos (by norm_num))
  funext j
  unfold attendK attendR
  congr 2
  funext i
  rw [← mix2_eq]
  congr 1
  funext k
  rw [scores_scale _ _ _ _ _ (by positivity), mul_assoc, ← EReal.coe_mul, mul_comm (Real.log 2)⁻¹]

/-- Two products of half rows are one product of the joined row. -/
theorem mixed_eq (x : Fin 1024 → EReal) (a b : Fin 512 → EReal) (w : Fin 1024 → Fin 1024 → EReal) :
    mixedK x a b w = mixedR x a b w := by
  funext j
  unfold mixedK mixedR
  rw [add_assoc]
  congr 1
  rw [Fin.sum_univ_two_halves 512 512 rfl]
  congr 1

/-- A sum over 4096 positions in four slabs of 1024. -/
theorem sum_four (f : Fin 4096 → EReal) :
    ∑ u : Fin 4096, f u = (∑ u : Fin 1024, f ⟨0 + u.val, by omega⟩) + ((∑ u : Fin 1024, f ⟨1024 + u.val, by omega⟩)
      + ((∑ u : Fin 1024, f ⟨2048 + u.val, by omega⟩) + ∑ u : Fin 1024, f ⟨3072 + u.val, by omega⟩)) := by
  rw [Fin.sum_univ_two_halves 1024 3072 rfl f]
  rw [Fin.sum_univ_two_halves 1024 2048 rfl (fun k : Fin 3072 => f ⟨1024 + k.val, by omega⟩)]
  rw [Fin.sum_univ_two_halves 1024 1024 rfl (fun k : Fin 2048 => f ⟨1024 + (1024 + k.val), by omega⟩)]
  simp only [Nat.zero_add, ← Nat.add_assoc, Nat.reduceAdd]

/-- Four slabs of hidden units are all of them. -/
theorem feed_eq (x g : Fin 1024 → EReal) (wu : Fin 1024 → Fin 4096 → EReal) (wd : Fin 4096 → Fin 1024 → EReal) :
    feedK x g wu wd = feedR x g wu wd := by
  funext j
  unfold feedK feedR slab lin
  rw [add_assoc, add_assoc, add_assoc, sum_four]

/-- One token through either tail is the same row. -/
theorem tail_eq (x : Fin 1024 → EReal) (a b : Fin 512 → EReal) (w : Fin 1024 → Fin 1024 → EReal) (gx : Fin 1024 → EReal)
    (wq : Fin 1024 → Fin 1024 → EReal) (K V : Fin 256 → Fin 1024 → EReal) (wo : Fin 1024 → Fin 1024 → EReal) (gm : Fin 1024 → EReal)
    (wu : Fin 1024 → Fin 4096 → EReal) (wd : Fin 4096 → Fin 1024 → EReal) (gf : Fin 1024 → EReal) :
    tailK (((Real.log 2)⁻¹ * (1 / 16) : ℝ) : EReal) x a b w gx wq K V wo gm wu wd gf
      = tailR (((1 / 16 : ℝ)) : EReal) x a b w gx wq K V wo gm wu wd gf := by
  unfold tailK tailR
  rw [mixed_eq, attend_eq, feed_eq]

end Cert.Rows

end
-- ==== Proof.Equation.lean ====
/- UNTRUSTED — the equation of the two idealized programs: the kernel's result, as a function of the arguments, is the
   reference's. -/
module

public import proofs.«01_k».proof.Proof.Kern.Entry
public import proofs.«01_k».proof.Proof.Ref.Value
public import proofs.«01_k».proof.Proof.Rows.Algebra
public import Idealize.ShloMosaic.PureOps.IdealRules

@[expose] public section

set_option maxRecDepth 16384

noncomputable section

namespace Cert.Equation

open Idealize.ShloMosaic Idealize.ShloMosaic.TcCoe Cert.Rows

/-- The scale the kernel folds into its queries, at its exact value. -/
theorem scale_eq : KernelIdeal.Post.scale = (((Real.log 2)⁻¹ * (1 / 16) : ℝ) : EReal) :=
  IdealRules.named_const.ideal_named_scalar _ _ _ _ rfl

/-- The reference's result array is the kernel's function of the same arguments. -/
theorem reference_eq (V0 : Valuation ReferenceIdeal.τ ReferenceIdeal.sig (Elt Ideal)) (u : FVec Ideal ReferenceIdeal.S32768x1024 .f32)
    (hu : ∀ r d, u (ix2 r d) = rms (fun e => ReferenceIdeal.Value.at85 V0 (⟨r.val / 2048, by omega⟩ : Fin 16) (⟨r.val % 2048, by omega⟩ : Fin 2048) e)
      (fun e => V0 (Proc.devRef .tc ReferenceIdeal.main_arg13) (ix1 e)) d) :
    u = KernelIdeal.Post.value (V0 (Proc.devRef .tc ReferenceIdeal.main_arg0)) (V0 (Proc.devRef .tc ReferenceIdeal.main_arg1)) (V0 (Proc.devRef .tc ReferenceIdeal.main_arg2)) (V0 (Proc.devRef .tc ReferenceIdeal.main_arg3)) (V0 (Proc.devRef .tc ReferenceIdeal.main_arg4)) (V0 (Proc.devRef .tc ReferenceIdeal.main_arg5)) (V0 (Proc.devRef .tc ReferenceIdeal.main_arg6)) (V0 (Proc.devRef .tc ReferenceIdeal.main_arg7)) (V0 (Proc.devRef .tc ReferenceIdeal.main_arg8)) (V0 (Proc.devRef .tc ReferenceIdeal.main_arg9)) (V0 (Proc.devRef .tc ReferenceIdeal.main_arg10)) (V0 (Proc.devRef .tc ReferenceIdeal.main_arg11)) (V0 (Proc.devRef .tc ReferenceIdeal.main_arg12)) (V0 (Proc.devRef .tc ReferenceIdeal.main_arg13)) := by
  funext i
  obtain ⟨r, d, rfl⟩ : ∃ (r : Fin 32768) (d : Fin 1024), i = ix2 r d := ⟨i 0, i 1, eq_ix2 i⟩
  rw [hu, ReferenceIdeal.Value.value_apply]
  unfold KernelIdeal.Post.value
  rw [scale_eq, tail_eq]
  rfl

end Cert.Equation

end
-- ==== Proof.In.FrameIdeal.lean ====
/- UNTRUSTED — the frame of the input projection's program, set up as the generated frames are; its body's obligation
   has more windows than the generated module's allowance of steps reaches, so the module stands here. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1560000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev r0_0 : Rect S1024x1024 := Rect.unit (s := S1024x1024) ![0, 0] S512x1024.size inb_S1024x1024_S512x1024_0_0
abbrev r0_1 : Rect S1x1024 := Rect.unit (s := S1x1024) ![0, 0] S1x1024.size inb_S1x1024_S1x1024_0_0
abbrev r0_2 : Rect S1024x1024 := Rect.unit (s := S1024x1024) ![512, 0] S512x1024.size inb_S1024x1024_S512x1024_512_0
abbrev r0_3 : Rect S1024x128 := Rect.unit (s := S1024x128) ![0, 0] S1024x128.size inb_S1024x128_S1024x128_0_0
abbrev r0_4 : Rect S1024x3088 := Rect.unit (s := S1024x3088) ![0, 0] S1024x512.size inb_S1024x3088_S1024x512_0_0
abbrev r0_5 : Rect S1024x1024 := Rect.unit (s := S1024x1024) ![0, 0] S512x512.size inb_S1024x1024_S512x512_0_0
abbrev r0_6 : Rect S1024x1024 := Rect.unit (s := S1024x1024) ![512, 0] S512x512.size inb_S1024x1024_S512x512_512_0
abbrev r0_7 : Rect S1024x3088 := Rect.unit (s := S1024x3088) ![0, 512] S1024x512.size inb_S1024x3088_S1024x512_0_512
abbrev r0_8 : Rect S1024x1024 := Rect.unit (s := S1024x1024) ![0, 512] S512x512.size inb_S1024x1024_S512x512_0_512
abbrev r0_9 : Rect S1024x1024 := Rect.unit (s := S1024x1024) ![512, 512] S512x512.size inb_S1024x1024_S512x512_512_512
abbrev r0_10 : Rect S128x256 := Rect.unit (s := S128x256) ![0, 0] S128x256.size inb_S128x256_S128x256_0_0
abbrev r0_11 : Rect S1x256 := Rect.unit (s := S1x256) ![0, 0] S1x256.size inb_S1x256_S1x256_0_0
abbrev r0_12 : Rect S1024x256 := Rect.unit (s := S1024x256) ![0, 0] S512x256.size inb_S1024x256_S512x256_0_0
abbrev r0_13 : Rect S1024x256 := Rect.unit (s := S1024x256) ![512, 0] S512x256.size inb_S1024x256_S512x256_512_0
abbrev r0_14 : Rect S1024x3088 := Rect.unit (s := S1024x3088) ![0, 1024] S1024x512.size inb_S1024x3088_S1024x512_0_1024
abbrev r0_15 : Rect S512x1024 := Rect.unit (s := S512x1024) ![0, 0] S512x512.size inb_S512x1024_S512x512_0_0
abbrev r0_16 : Rect S512x1024 := Rect.unit (s := S512x1024) ![0, 512] S512x512.size inb_S512x1024_S512x512_0_512
abbrev r0_17 : Rect S1024x3088 := Rect.unit (s := S1024x3088) ![0, 1536] S1024x256.size inb_S1024x3088_S1024x256_0_1536
abbrev r0_18 : Rect S1024x3088 := Rect.unit (s := S1024x3088) ![0, 1792] S1024x256.size inb_S1024x3088_S1024x256_0_1792
abbrev r0_19 : Rect S1024x3088 := Rect.unit (s := S1024x3088) ![0, 2048] S1024x512.size inb_S1024x3088_S1024x512_0_2048
abbrev r0_20 : Rect S1024x512 := Rect.unit (s := S1024x512) ![0, 0] S512x512.size inb_S1024x512_S512x512_0_0
abbrev r0_21 : Rect S1024x512 := Rect.unit (s := S1024x512) ![512, 0] S512x512.size inb_S1024x512_S512x512_512_0
abbrev r0_22 : Rect S1024x512 := Rect.unit (s := S1024x512) ![0, 0] S1024x512.size inb_S1024x512_S1024x512_0_0
abbrev r0_23 : Rect S32x1024 := Rect.unit (s := S32x1024) ![0, 0] S32x1024.size inb_S32x1024_S32x1024_0_0
abbrev r0_24 : Rect S32x2048 := Rect.unit (s := S32x2048) ![0, 0] S32x2048.size inb_S32x2048_S32x2048_0_0
abbrev r0_25 : Rect S32x4096 := Rect.unit (s := S32x4096) ![0, 0] S32x4096.size inb_S32x4096_S32x4096_0_0
abbrev r0_26 : Rect S128x1024 := Rect.unit (s := S128x1024) ![0, 0] S128x1024.size inb_S128x1024_S128x1024_0_0

/-! ## What the body leaves in each output window's buffer -/

/-! ### Values of the body that the stores' payloads, spelt out, would write more than once

    Each is a vector the body binds (often a part call's result), stated over the input windows' blocks and
    numbered on from the skeleton's payload functions (`k0_pay29` …, after `k0_pay28`), so that
    `out0_W` and the values after it name it instead of spelling it out; the comment after each is the printed function's
    name for the value (a count appended where that name is bound again). -/

def k0_pay29 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : FVec F S512x1024 .bf16 :=
  k0_pay6 (View.ld x0 r0_0) (View.ld x1 r0_1) -- `v16`
def k0_pay30 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : FVec F S512x1024 .bf16 :=
  k0_pay7 (View.ld x0 r0_2) (View.ld x1 r0_1) -- `v33`

/-- Window 13's staging buffer after the body, from the input windows' blocks: its 4 stores as pieces, LAST
    FIRST (Lib/Pipeline/FrameBody.lean `View.canon`; the payloads are the skeleton's and the values stated above). -/
def out0_13 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S1024x1024 .bf16 :=
  View.canon [⟨r0_9, k0_pay14 (k0_pay30 x0 x1 x2 x3 x4 x5 x6 x7 x8 x9 x10 x11 x12) (View.ld x2 r0_7)⟩,
    ⟨r0_8, k0_pay13 (k0_pay29 x0 x1 x2 x3 x4 x5 x6 x7 x8 x9 x10 x11 x12) (View.ld x2 r0_7)⟩,
    ⟨r0_6, k0_pay12 (k0_pay30 x0 x1 x2 x3 x4 x5 x6 x7 x8 x9 x10 x11 x12) (View.ld x2 r0_4)⟩,
    ⟨r0_5, k0_pay11 (k0_pay29 x0 x1 x2 x3 x4 x5 x6 x7 x8 x9 x10 x11 x12) (View.ld x2 r0_4)⟩]

/-- Its stores tile the buffer (checked by evaluation), so they cover it. -/
theorem cover0_13 (p0 : Vec F S512x512 .bf16) (p1 : Vec F S512x512 .bf16) (p2 : Vec F S512x512 .bf16) (p3 : Vec F S512x512 .bf16) (y : S1024x1024.Idx) :
    ∃ pc ∈ ([⟨r0_9, p0⟩, ⟨r0_8, p1⟩, ⟨r0_6, p2⟩, ⟨r0_5, p3⟩] : List (View.Piece (Elt F) S1024x1024 .bf16)), y ∈ pc.1.set :=
  View.cover_of_tiled [⟨r0_9, p0⟩, ⟨r0_8, p1⟩, ⟨r0_6, p2⟩, ⟨r0_5, p3⟩] S512x512.size (by rfl) y

/-- Window 14's staging buffer after the body, from the input windows' blocks: its 2 stores as pieces, LAST
    FIRST (Lib/Pipeline/FrameBody.lean `View.canon`; the payloads are the skeleton's and the values stated above). -/
def out0_14 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S512x1024 .bf16 :=
  View.canon [⟨r0_16, k0_pay19 (k0_pay30 x0 x1 x2 x3 x4 x5 x6 x7 x8 x9 x10 x11 x12) (View.ld x2 r0_14)⟩,
    ⟨r0_15, k0_pay18 (k0_pay29 x0 x1 x2 x3 x4 x5 x6 x7 x8 x9 x10 x11 x12) (View.ld x2 r0_14)⟩]

/-- Its stores tile the buffer (checked by evaluation), so they cover it. -/
theorem cover0_14 (p0 : Vec F S512x512 .bf16) (p1 : Vec F S512x512 .bf16) (y : S512x1024.Idx) :
    ∃ pc ∈ ([⟨r0_16, p0⟩, ⟨r0_15, p1⟩] : List (View.Piece (Elt F) S512x1024 .bf16)), y ∈ pc.1.set :=
  View.cover_of_tiled [⟨r0_16, p0⟩, ⟨r0_15, p1⟩] S512x512.size (by rfl) y

/-- Window 15's staging buffer after the body, from the input windows' blocks: its 2 stores as pieces, LAST
    FIRST (Lib/Pipeline/FrameBody.lean `View.canon`; the payloads are the skeleton's and the values stated above). -/
def out0_15 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S1024x256 .f32 :=
  View.canon [⟨r0_13, k0_pay22 (k0_pay30 x0 x1 x2 x3 x4 x5 x6 x7 x8 x9 x10 x11 x12) (View.ld x2 r0_17)⟩,
    ⟨r0_12, k0_pay20 (k0_pay29 x0 x1 x2 x3 x4 x5 x6 x7 x8 x9 x10 x11 x12) (View.ld x2 r0_17)⟩]

/-- Its stores tile the buffer (checked by evaluation), so they cover it. -/
theorem cover0_15 (p0 : Vec F S512x256 .f32) (p1 : Vec F S512x256 .f32) (y : S1024x256.Idx) :
    ∃ pc ∈ ([⟨r0_13, p0⟩, ⟨r0_12, p1⟩] : List (View.Piece (Elt F) S1024x256 .f32)), y ∈ pc.1.set :=
  View.cover_of_tiled [⟨r0_13, p0⟩, ⟨r0_12, p1⟩] S512x256.size (by rfl) y

/-- Window 16's staging buffer after the body, from the input windows' blocks: its 2 stores as pieces, LAST
    FIRST (Lib/Pipeline/FrameBody.lean `View.canon`; the payloads are the skeleton's and the values stated above). -/
def out0_16 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S1024x256 .f32 :=
  View.canon [⟨r0_13, k0_pay23 (k0_pay30 x0 x1 x2 x3 x4 x5 x6 x7 x8 x9 x10 x11 x12) (View.ld x2 r0_18)⟩,
    ⟨r0_12, k0_pay21 (k0_pay29 x0 x1 x2 x3 x4 x5 x6 x7 x8 x9 x10 x11 x12) (View.ld x2 r0_18)⟩]

/-- Its stores tile the buffer (checked by evaluation), so they cover it. -/
theorem cover0_16 (p0 : Vec F S512x256 .f32) (p1 : Vec F S512x256 .f32) (y : S1024x256.Idx) :
    ∃ pc ∈ ([⟨r0_13, p0⟩, ⟨r0_12, p1⟩] : List (View.Piece (Elt F) S1024x256 .f32)), y ∈ pc.1.set :=
  View.cover_of_tiled [⟨r0_13, p0⟩, ⟨r0_12, p1⟩] S512x256.size (by rfl) y

/-- Window 17's staging buffer after the body, from the input windows' blocks: its 2 stores as pieces, LAST
    FIRST (Lib/Pipeline/FrameBody.lean `View.canon`; the payloads are the skeleton's and the values stated above). -/
def out0_17 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S1024x256 .f32 :=
  View.canon [⟨r0_13, k0_pay17 (k0_pay10 (k0_pay30 x0 x1 x2 x3 x4 x5 x6 x7 x8 x9 x10 x11 x12) (k0_pay9 (View.ld x4 r0_3))) (View.ld x5 r0_10) (View.ld x6 r0_11)⟩,
    ⟨r0_12, k0_pay16 (k0_pay15 (k0_pay8 (View.ld x0 r0_0) (View.ld x1 r0_1) (View.ld x4 r0_3)) (View.ld x5 r0_10)) (View.ld x6 r0_11)⟩]

/-- Its stores tile the buffer (checked by evaluation), so they cover it. -/
theorem cover0_17 (p0 : Vec F S512x256 .f32) (p1 : Vec F S512x256 .f32) (y : S1024x256.Idx) :
    ∃ pc ∈ ([⟨r0_13, p0⟩, ⟨r0_12, p1⟩] : List (View.Piece (Elt F) S1024x256 .f32)), y ∈ pc.1.set :=
  View.cover_of_tiled [⟨r0_13, p0⟩, ⟨r0_12, p1⟩] S512x256.size (by rfl) y

/-- Window 18's staging buffer after the body, from the input windows' blocks: its 2 stores as pieces, LAST
    FIRST (Lib/Pipeline/FrameBody.lean `View.canon`; the payloads are the skeleton's and the values stated above). -/
def out0_18 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S1024x512 .bf16 :=
  View.canon [⟨r0_21, k0_pay25 (k0_pay30 x0 x1 x2 x3 x4 x5 x6 x7 x8 x9 x10 x11 x12) (View.ld x2 r0_19)⟩,
    ⟨r0_20, k0_pay24 (k0_pay29 x0 x1 x2 x3 x4 x5 x6 x7 x8 x9 x10 x11 x12) (View.ld x2 r0_19)⟩]

/-- Its stores tile the buffer (checked by evaluation), so they cover it. -/
theorem cover0_18 (p0 : Vec F S512x512 .bf16) (p1 : Vec F S512x512 .bf16) (y : S1024x512.Idx) :
    ∃ pc ∈ ([⟨r0_21, p0⟩, ⟨r0_20, p1⟩] : List (View.Piece (Elt F) S1024x512 .bf16)), y ∈ pc.1.set :=
  View.cover_of_tiled [⟨r0_21, p0⟩, ⟨r0_20, p1⟩] S512x512.size (by rfl) y

/-- Window 19's staging buffer after the body, from the input windows' blocks: its 2 stores as pieces, LAST
    FIRST (Lib/Pipeline/FrameBody.lean `View.canon`; the payloads are the skeleton's and the values stated above). -/
def out0_19 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S1024x512 .f32 :=
  View.canon [⟨r0_21, k0_pay27 (k0_pay30 x0 x1 x2 x3 x4 x5 x6 x7 x8 x9 x10 x11 x12) (View.ld x3 r0_22)⟩,
    ⟨r0_20, k0_pay26 (k0_pay29 x0 x1 x2 x3 x4 x5 x6 x7 x8 x9 x10 x11 x12) (View.ld x3 r0_22)⟩]

/-- Its stores tile the buffer (checked by evaluation), so they cover it. -/
theorem cover0_19 (p0 : Vec F S512x512 .f32) (p1 : Vec F S512x512 .f32) (y : S1024x512.Idx) :
    ∃ pc ∈ ([⟨r0_21, p0⟩, ⟨r0_20, p1⟩] : List (View.Piece (Elt F) S1024x512 .f32)), y ∈ pc.1.set :=
  View.cover_of_tiled [⟨r0_21, p0⟩, ⟨r0_20, p1⟩] S512x512.size (by rfl) y

/-- Window 20's staging buffer after the body, from the input windows' blocks: its 1 store as pieces, LAST
    FIRST (Lib/Pipeline/FrameBody.lean `View.canon`; the payloads are the skeleton's and the values stated above). -/
def out0_20 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S32x1024 .bf16 :=
  View.canon [⟨r0_23, k0_pay28 (View.ld x7 r0_23)⟩]

/-- Its stores tile the buffer (checked by evaluation), so they cover it. -/
theorem cover0_20 (p0 : Vec F S32x1024 .bf16) (y : S32x1024.Idx) :
    ∃ pc ∈ ([⟨r0_23, p0⟩] : List (View.Piece (Elt F) S32x1024 .bf16)), y ∈ pc.1.set :=
  View.cover_of_tiled [⟨r0_23, p0⟩] S32x1024.size (by rfl) y

/-- Window 21's staging buffer after the body, from the input windows' blocks: its 1 store as pieces, LAST
    FIRST (Lib/Pipeline/FrameBody.lean `View.canon`; the payloads are the skeleton's and the values stated above). -/
def out0_21 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S32x1024 .bf16 :=
  View.canon [⟨r0_23, k0_pay1 (View.ld x8 r0_23)⟩]

/-- Its stores tile the buffer (checked by evaluation), so they cover it. -/
theorem cover0_21 (p0 : Vec F S32x1024 .bf16) (y : S32x1024.Idx) :
    ∃ pc ∈ ([⟨r0_23, p0⟩] : List (View.Piece (Elt F) S32x1024 .bf16)), y ∈ pc.1.set :=
  View.cover_of_tiled [⟨r0_23, p0⟩] S32x1024.size (by rfl) y

/-- Window 22's staging buffer after the body, from the input windows' blocks: its 1 store as pieces, LAST
    FIRST (Lib/Pipeline/FrameBody.lean `View.canon`; the payloads are the skeleton's and the values stated above). -/
def out0_22 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S32x2048 .bf16 :=
  View.canon [⟨r0_24, k0_pay2 (View.ld x9 r0_24)⟩]

/-- Its stores tile the buffer (checked by evaluation), so they cover it. -/
theorem cover0_22 (p0 : Vec F S32x2048 .bf16) (y : S32x2048.Idx) :
    ∃ pc ∈ ([⟨r0_24, p0⟩] : List (View.Piece (Elt F) S32x2048 .bf16)), y ∈ pc.1.set :=
  View.cover_of_tiled [⟨r0_24, p0⟩] S32x2048.size (by rfl) y

/-- Window 23's staging buffer after the body, from the input windows' blocks: its 1 store as pieces, LAST
    FIRST (Lib/Pipeline/FrameBody.lean `View.canon`; the payloads are the skeleton's and the values stated above). -/
def out0_23 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S32x1024 .bf16 :=
  View.canon [⟨r0_23, k0_pay3 (View.ld x10 r0_23)⟩]

/-- Its stores tile the buffer (checked by evaluation), so they cover it. -/
theorem cover0_23 (p0 : Vec F S32x1024 .bf16) (y : S32x1024.Idx) :
    ∃ pc ∈ ([⟨r0_23, p0⟩] : List (View.Piece (Elt F) S32x1024 .bf16)), y ∈ pc.1.set :=
  View.cover_of_tiled [⟨r0_23, p0⟩] S32x1024.size (by rfl) y

/-- Window 24's staging buffer after the body, from the input windows' blocks: its 1 store as pieces, LAST
    FIRST (Lib/Pipeline/FrameBody.lean `View.canon`; the payloads are the skeleton's and the values stated above). -/
def out0_24 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S32x4096 .bf16 :=
  View.canon [⟨r0_25, k0_pay4 (View.ld x11 r0_25)⟩]

/-- Its stores tile the buffer (checked by evaluation), so they cover it. -/
theorem cover0_24 (p0 : Vec F S32x4096 .bf16) (y : S32x4096.Idx) :
    ∃ pc ∈ ([⟨r0_25, p0⟩] : List (View.Piece (Elt F) S32x4096 .bf16)), y ∈ pc.1.set :=
  View.cover_of_tiled [⟨r0_25, p0⟩] S32x4096.size (by rfl) y

/-- Window 25's staging buffer after the body, from the input windows' blocks: its 1 store as pieces, LAST
    FIRST (Lib/Pipeline/FrameBody.lean `View.canon`; the payloads are the skeleton's and the values stated above). -/
def out0_25 (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) : Vec F S128x1024 .bf16 :=
  View.canon [⟨r0_26, k0_pay5 (View.ld x12 r0_26)⟩]

/-- Its stores tile the buffer (checked by evaluation), so they cover it. -/
theorem cover0_25 (p0 : Vec F S128x1024 .bf16) (y : S128x1024.Idx) :
    ∃ pc ∈ ([⟨r0_26, p0⟩] : List (View.Piece (Elt F) S128x1024 .bf16)), y ∈ pc.1.set :=
  View.cover_of_tiled [⟨r0_26, p0⟩] S128x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1024x3088 .bf16) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S32x2048 .f32) (harg10 : arg10.IsWhole) (arg11 : Memref sig .tc .vmem S32x1024 .f32) (harg11 : arg11.IsWhole) (arg12 : Memref sig .tc .vmem S32x4096 .f32) (harg12 : arg12.IsWhole) (arg13 : Memref sig .tc .vmem S128x1024 .f32) (harg13 : arg13.IsWhole) (arg14 : Memref sig .tc .vmem S1024x1024 .bf16) (harg14 : arg14.IsWhole) (arg15 : Memref sig .tc .vmem S512x1024 .bf16) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x512 .bf16) (harg19 : arg19.IsWhole) (arg20 : Memref sig .tc .vmem S1024x512 .f32) (harg20 : arg20.IsWhole) (arg21 : Memref sig .tc .vmem S32x1024 .bf16) (harg21 : arg21.IsWhole) (arg22 : Memref sig .tc .vmem S32x1024 .bf16) (harg22 : arg22.IsWhole) (arg23 : Memref sig .tc .vmem S32x2048 .bf16) (harg23 : arg23.IsWhole) (arg24 : Memref sig .tc .vmem S32x1024 .bf16) (harg24 : arg24.IsWhole) (arg25 : Memref sig .tc .vmem S32x4096 .bf16) (harg25 : arg25.IsWhole) (arg26 : Memref sig .tc .vmem S128x1024 .bf16) (harg26 : arg26.IsWhole)
    (x0 : Vec F S1024x1024 .f32) (x1 : Vec F S1x1024 .f32) (x2 : Vec F S1024x3088 .bf16) (x3 : Vec F S1024x512 .bf16) (x4 : Vec F S1024x128 .bf16) (x5 : Vec F S128x256 .bf16) (x6 : Vec F S1x256 .f32) (x7 : Vec F S32x1024 .f32) (x8 : Vec F S32x1024 .f32) (x9 : Vec F S32x2048 .f32) (x10 : Vec F S32x1024 .f32) (x11 : Vec F S32x4096 .f32) (x12 : Vec F S128x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12) ∗ owns (c : Thread nD τ) arg25 fullShare (out0_24 x0 x1 x2 x3 x4 x5 x6 x7 x8 x9 x10 x11 x12) ∗ owns (c : Thread nD τ) arg26 fullShare (out0_25 x0 x1 x2 x3 x4 x5 x6 x7 x8 x9 x10 x11 x12)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _ _)).trans ?_
    rfl
  isplitl [H15]
  · iexists _; isplitr
    swap; · iexact H15
    ipureintro
    refine (View.read_writes_eq_canon _ _ _ (cover0_15 _ _)).trans ?_
    rfl
  isplitl [H16]
  · iexists _; isplitr
    swap; · iexact H16
    ipureintro
    refine (View.read_writes_eq_canon _ _ _ (cover0_16 _ _)).trans ?_
    rfl
  isplitl [H17]
  · iexists _; isplitr
    swap; · iexact H17
    ipureintro
    refine (View.read_writes_eq_canon _ _ _ (cover0_17 _ _)).trans ?_
    rfl
  isplitl [H18]
  · iexists _; isplitr
    swap; · iexact H18
    ipureintro
    refine (View.read_writes_eq_canon _ _ _ (cover0_18 _ _)).trans ?_
    rfl
  isplitl [H19]
  · iexists _; isplitr
    swap; · iexact H19
    ipureintro
    refine (View.read_writes_eq_canon _ _ _ (cover0_19 _ _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel2Ideal.Gen

end
-- ==== Proof.In.Spec.lean ====
/- UNTRUSTED — what the input projection computes for ONE token beside the plain products: the log-sigmoid of the forget
   gate, as the kernel and as the reference spell it. -/
module

public import proofs.«01_k».proof.Proof.Rows.Spec

@[expose] public section

noncomputable section

namespace Cert.Rows

open Idealize.ShloMosaic

/-- The kernel's log-sigmoid, scaled: the lesser of the number and zero, less `log (1 + exp (-|z|))`, times the scale. -/
def logGateK (z : EReal) : EReal :=
  (min z (Ideal.ofBits .f32 0x00000000#32)
      - Ideal.log (Ideal.ofBits .f32 0x3F800000#32 + Ideal.exp (Ideal.ofBits .f32 0x00000000#32 - max z (-z))))
    * Ideal.ofBits .f32 0x3D800000#32

/-- The queries and keys of one token: the first 1024 columns of the projection, the first 512 of them scaled. -/
def qkRow (s : EReal) (h : Fin 1024 → EReal) (w : Fin 1024 → Fin 3088 → EReal) (j : Fin 1024) : EReal :=
  if j.val < 512 then lin h w ⟨j.val, by omega⟩ * s else lin h w ⟨j.val, by omega⟩

/-- Column `j` of a slice of the projection's columns that starts at column `o`. -/
def part (o : Nat) {n : Nat} (ho : o + n ≤ 3088) (h : Fin 1024 → EReal) (w : Fin 1024 → Fin 3088 → EReal) (j : Fin n) : EReal :=
  lin h w ⟨o + j.val, by omega⟩

/-- The batch a token belongs to: 2048 tokens each. -/
def tokBatch (r : Fin 32768) : Fin 16 := ⟨r.val / 2048, by omega⟩

/-- The place of a token in its batch. -/
def tokStep (r : Fin 32768) : Fin 2048 := ⟨r.val % 2048, by omega⟩

/-- The forget gate of one token before the log-sigmoid: 16 columns of the projection, times a matrix, plus a bias. -/
def gate (h : Fin 1024 → EReal) (w : Fin 1024 → Fin 3088 → EReal) (u : Fin 16 → Fin 256 → EReal) (b : Fin 256 → EReal) (j : Fin 256) : EReal :=
  lin (part (n := 16) 2560 (by omega) h w) u j + b j

end Cert.Rows

end
-- ==== Proof.In.Algebra.lean ====
/- UNTRUSTED — the kernel's log-sigmoid and scaled queries are the reference's, on the extended reals, infinities
   included. -/
module

public import proofs.«01_k».proof.Proof.In.Spec
public import proofs.«01_k».proof.Proof.Consts
public import Idealize.ShloMosaic.Lib.Pointwise

@[expose] public section

noncomputable section

namespace Cert.Rows

open Idealize.ShloMosaic

/-- The pattern of `16`, the forget gate's divisor, denotes the real `16`. -/
theorem ofBits_sixteen : Ideal.ofBits .f32 0x41800000#32 = (((16 : ℝ)) : EReal) := by
  simp [Ideal.ofBits, Ideal.ieee, -EReal.coe_mul]; norm_num

/-- The pattern of `0.125`, the scale of the queries, denotes the real `1 / 8`. -/
theorem ofBits_eighth : Ideal.ofBits .f32 0x3E000000#32 = (((1 / 8 : ℝ)) : EReal) := by
  simp [Ideal.ofBits, Ideal.ieee, -EReal.coe_mul]; norm_num

/-- The pattern of `2` denotes the real `2`. -/
theorem ofBits_two : Ideal.ofBits .f32 0x40000000#32 = (((2 : ℝ)) : EReal) := by
  simp [Ideal.ofBits, Ideal.ieee, -EReal.coe_mul]; norm_num

/-- The pattern of `1` denotes the real `1`. -/
theorem ofBits_one : Ideal.ofBits .f32 0x3F800000#32 = (((1 : ℝ)) : EReal) := by
  simp [Ideal.ofBits, Ideal.ieee, -EReal.coe_mul]; norm_num

/-- The pattern of zero denotes zero. -/
theorem ofBits_zero : Ideal.ofBits .f32 0x00000000#32 = (0 : EReal) := by
  simp [Ideal.ofBits, Ideal.ieee]

/-- The reference's log-sigmoid, divided: the negated softplus of the negated number. -/
def logGateR (z : EReal) : EReal :=
  Ideal.div (-(max (-z) 0 + Ideal.log1p (Ideal.exp (-max (-z) (-(-z)))))) (Ideal.ofBits .f32 0x41800000#32)

/-- Dividing by a real that is not zero is multiplying by its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- The larger of two reals, seen among the extended reals. -/
theorem coe_max (x y : ℝ) : ((max x y : ℝ) : EReal) = max (x : EReal) (y : EReal) :=
  EReal.coe_strictMono.monotone.map_max

/-- The smaller of two reals, seen among the extended reals. -/
theorem coe_min (x y : ℝ) : ((min x y : ℝ) : EReal) = min (x : EReal) (y : EReal) :=
  EReal.coe_strictMono.monotone.map_min

/-- The two log-sigmoids agree at every extended real. -/
theorem logGate_eq (z : EReal) : logGateK z = logGateR z := by
  unfold logGateK logGateR Ideal.log1p
  rw [ofBits_zero, ofBits_one, ofBits_sixteen, Consts.ofBits_sixteenth, div_real _ _ (by norm_num), one_div, neg_neg, zero_sub,
    max_comm z (-z), EReal.coe_one]
  congr 1
  induction z with
  | bot =>
    simp only [EReal.neg_bot, bot_le, min_eq_left, le_top, max_eq_left, EReal.neg_top, EReal.bot_sub]
    have : Ideal.exp ⊥ = 0 := rfl
    rw [this, add_zero]
    have h1 : Ideal.log (1 : EReal) = 0 := by
      show (if (1 : ℝ) ≤ 0 then ⊥ else ((Real.log 1 : ℝ) : EReal)) = 0
      rw [if_neg (by norm_num), Real.log_one, EReal.coe_zero]
    rw [h1]; simp
  | top =>
    have h1 : Ideal.log (1 : EReal) = 0 := by
      show (if (1 : ℝ) ≤ 0 then ⊥ else ((Real.log 1 : ℝ) : EReal)) = 0
      rw [if_neg (by norm_num), Real.log_one, EReal.coe_zero]
    have : Ideal.exp ⊥ = 0 := rfl
    simp [this, h1]
  | coe x =>
    have hp : 0 < 1 + Real.exp (-max (-x) x) := by positivity
    have hl : Ideal.log (1 + Ideal.exp (-max (-(x : EReal)) x)) = ((Real.log (1 + Real.exp (-max (-x) x)) : ℝ) : EReal) := by
      rw [← EReal.coe_neg, ← coe_max, ← EReal.coe_neg]
      show Ideal.log (((1 : ℝ) : EReal) + ((Real.exp (-max (-x) x) : ℝ) : EReal)) = _
      rw [← EReal.coe_add]
      show (if 1 + Real.exp (-max (-x) x) ≤ 0 then ⊥ else _) = _
      rw [if_neg (not_le.mpr hp)]
    rw [hl, ← EReal.coe_zero, ← EReal.coe_neg, ← coe_min, ← coe_max, ← EReal.coe_sub, ← EReal.coe_add, ← EReal.coe_neg]
    congr 1
    have : max (-x) 0 = - min x 0 := by rw [← neg_zero, max_neg_neg, neg_zero]
    rw [this]; ring

/-- Queries scaled by `1 / 8` and divided by `ln 2` are queries times the kernel's one constant. -/
theorem qscale_eq (x : EReal) :
    Ideal.div (x * Ideal.ofBits .f32 0x3E000000#32) (Ideal.log (Ideal.ofBits .f32 0x40000000#32)) = x * (((Real.log 2)⁻¹ * (1 / 8) : ℝ) : EReal) := by
  have hl : Real.log 2 ≠ 0 := (Real.log_pos (by norm_num)).ne'
  have h2 : Ideal.log (((2 : ℝ)) : EReal) = ((Real.log 2 : ℝ) : EReal) := by
    show (if (2 : ℝ) ≤ 0 then ⊥ else _) = _
    rw [if_neg (by norm_num)]
  rw [ofBits_eighth, ofBits_two, h2, div_real _ _ hl, mul_assoc, ← EReal.coe_mul, mul_comm (1 / 8 : ℝ)]

end Cert.Rows

end
-- ==== Proof.In.Ref.lean ====
/- UNTRUSTED — the reference's projection and its pieces read at an index: the row functions of Rows/Spec.lean and
   In/Spec.lean. -/
module

public import proofs.«01_k».proof.Proof.Gen.Reference2Ideal.Run
public import proofs.«01_k».proof.Proof.In.Algebra
public import Idealize.ShloMosaic.Lib.Tactic.CleanTypes

@[expose] public section

set_option maxRecDepth 16384

noncomputable section

namespace Cert.Reference2Ideal.In

open Cert.Reference2Ideal Cert.Reference2Ideal.Gen Idealize.ShloMosaic Idealize.ShloMosaic.TcCoe Cert.Rows

/-- The whole projection at a batch, a step and a column. -/
theorem proj_apply (a0 : FVec Ideal S16x2048x1024 .f32) (a1 : FVec Ideal S1x1024 .f32) (a2 : FVec Ideal S1x1024x3088 .f32) (g : Fin 16) (t : Fin 2048) (j : Fin 3088) :
    (Host.dotGeneral dot_S16x2048x1024_S1024x3088_S16x2048x3088_2_0_01_1_n_n none (mulf (mulf a0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf a0 a0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ a1 shapeCasts_S1x1024_S1024)))) (shapeCast _ a2 shapeCasts_S1x1024x3088_S1024x3088)) (ix3 g t j)
      = lin (rms (fun k => a0 (ix3 g t k)) fun k => a1 (ix2 0 k)) (fun k j => a2 (ix3 0 k j)) j := by
  unfold lin rms Rows.inv
  pointwise

/-- The queries and keys of any projection. -/
theorem qk_apply (p : FVec Ideal S16x2048x3088 .f32) (r : Fin 32768) (j : Fin 1024) :
    (truncf .bf16 (shapeCast _ (concatenate S16x2048x1024 2 [⟨S16x2048x512, (Host.divf (mulf (extractStridedSlice S16x2048x512 ![0, 0, 0] p slices_S16x2048x3088_S16x2048x512_0_0_0) (broadcastInDim S16x2048x512 ![] bcast_S_S16x2048x512 (constant S_ .f32 0x3E000000#32))) (broadcastInDim S16x2048x512 ![] bcast_S_S16x2048x512 (Host.log (constant S_ .f32 0x40000000#32))))⟩, ⟨S16x2048x512, (extractStridedSlice S16x2048x512 ![0, 0, 512] p slices_S16x2048x3088_S16x2048x512_0_0_512)⟩] concatenates_S16x2048x512_S16x2048x512_S16x2048x1024_d2) shapeCasts_S16x2048x1024_S32768x1024) bitsLt_bf16_f32 : FVec Ideal S32768x1024 .bf16) (ix2 r j)
      = if h : j.val < 512 then Ideal.div (p (ix3 (tokBatch r) (tokStep r) ⟨j.val, by omega⟩) * Ideal.ofBits .f32 0x3E000000#32) (Ideal.log (Ideal.ofBits .f32 0x40000000#32)) else p (ix3 (tokBatch r) (tokStep r) ⟨j.val, by omega⟩) := by
  unfold tokBatch tokStep
  pointwise
  split
  · rfl
  · congr 2
    exact Fin.ext (by dsimp only; omega)

/-- The gated heads' keys of any projection. -/
theorem kg_apply (p : FVec Ideal S16x2048x3088 .f32) (r : Fin 32768) (j : Fin 256) :
    (shapeCast _ (extractStridedSlice S16x2048x256 ![0, 0, 1792] p slices_S16x2048x3088_S16x2048x256_0_0_1792) shapeCasts_S16x2048x256_S32768x256 : FVec Ideal S32768x256 .f32) (ix2 r j)
      = p (ix3 (tokBatch r) (tokStep r) ⟨1792 + j.val, by omega⟩) := by
  unfold tokBatch tokStep
  pointwise

/-- The gated heads' values of any projection. -/
theorem vg_apply (p : FVec Ideal S16x2048x3088 .f32) (r : Fin 32768) (j : Fin 512) :
    (truncf .bf16 (shapeCast _ (extractStridedSlice S16x2048x512 ![0, 0, 2048] p slices_S16x2048x3088_S16x2048x512_0_0_2048) shapeCasts_S16x2048x512_S32768x512) bitsLt_bf16_f32 : FVec Ideal S32768x512 .bf16) (ix2 r j)
      = p (ix3 (tokBatch r) (tokStep r) ⟨2048 + j.val, by omega⟩) := by
  unfold tokBatch tokStep
  pointwise

/-- The output gate of any projection. -/
theorem rg_apply (p : FVec Ideal S16x2048x3088 .f32) (r : Fin 32768) (j : Fin 512) :
    (shapeCast _ (extractStridedSlice S16x2048x512 ![0, 0, 2576] p slices_S16x2048x3088_S16x2048x512_0_0_2576) shapeCasts_S16x2048x512_S32768x512 : FVec Ideal S32768x512 .f32) (ix2 r j)
      = p (ix3 (tokBatch r) (tokStep r) ⟨2576 + j.val, by omega⟩) := by
  unfold tokBatch tokStep
  pointwise

/-- The attention heads' values of any projection, transposed. -/
theorem vt_apply (p : FVec Ideal S16x2048x3088 .f32) (r : Fin 32768) (j : Fin 512) :
    (truncf .bf16 (transpose S512x32768 [1, 0] (shapeCast _ (extractStridedSlice S16x2048x512 ![0, 0, 1024] p slices_S16x2048x3088_S16x2048x512_0_0_1024) shapeCasts_S16x2048x512_S32768x512) transposes_S32768x512_S512x32768_1_0) bitsLt_bf16_f32 : FVec Ideal S512x32768 .bf16) (ix2 j r)
      = p (ix3 (tokBatch r) (tokStep r) ⟨1024 + j.val, by omega⟩) := by
  unfold tokBatch tokStep
  pointwise

/-- The gated heads' queries of any projection, scaled. -/
theorem qg_apply (p : FVec Ideal S16x2048x3088 .f32) (r : Fin 32768) (j : Fin 256) :
    (shapeCast _ (mulf (extractStridedSlice S16x2048x256 ![0, 0, 1536] p slices_S16x2048x3088_S16x2048x256_0_0_1536) (broadcastInDim S16x2048x256 ![] bcast_S_S16x2048x256 (constant S_ .f32 0x3E000000#32))) shapeCasts_S16x2048x256_S32768x256 : FVec Ideal S32768x256 .f32) (ix2 r j)
      = p (ix3 (tokBatch r) (tokStep r) ⟨1536 + j.val, by omega⟩) * Ideal.ofBits .f32 0x3E000000#32 := by
  unfold tokBatch tokStep
  pointwise

/-- The forget gate of any projection before the log-sigmoid. -/
theorem gate_apply (p : FVec Ideal S16x2048x3088 .f32) (u : FVec Ideal S1x16x256 .f32) (b : FVec Ideal S1x256 .f32) (g : Fin 16) (t : Fin 2048) (j : Fin 256) :
    (addf (Host.dotGeneral dot_S16x2048x16_S16x256_S16x2048x256_2_0_01_1_n_n none (extractStridedSlice S16x2048x16 ![0, 0, 2560] p slices_S16x2048x3088_S16x2048x16_0_0_2560) (shapeCast _ u shapeCasts_S1x16x256_S16x256)) (broadcastInDim S16x2048x256 ![0, 1, 2] bcast_S1x1x256_S16x2048x256_0_1_2 (broadcastInDim S1x1x256 ![2] bcast_S256_S1x1x256_2 (shapeCast _ b shapeCasts_S1x256_S256)))) (ix3 g t j)
      = lin (fun q : Fin 16 => p (ix3 g t ⟨2560 + q.val, by omega⟩)) (fun q j => u (ix3 0 q j)) j + b (ix2 0 j) := by
  unfold lin
  pointwise

/-- The log-sigmoid of any array of gates, divided, with the batches and their tokens joined. -/
theorem la_apply (z : FVec Ideal S16x2048x256 .f32) (r : Fin 32768) (j : Fin 256) :
    (shapeCast _ (Host.divf (Host.negf (select (cmpf .une (subf (Host.negf z) (broadcastInDim S16x2048x256 ![] bcast_S_S16x2048x256 (constant S_ .f32 0x00000000#32))) (subf (Host.negf z) (broadcastInDim S16x2048x256 ![] bcast_S_S16x2048x256 (constant S_ .f32 0x00000000#32)))) (addf (Host.negf z) (broadcastInDim S16x2048x256 ![] bcast_S_S16x2048x256 (constant S_ .f32 0x00000000#32))) (addf (maximumf (Host.negf z) (broadcastInDim S16x2048x256 ![] bcast_S_S16x2048x256 (constant S_ .f32 0x00000000#32))) (Host.log1p (Host.exp (Host.negf (Host.absf (subf (Host.negf z) (broadcastInDim S16x2048x256 ![] bcast_S_S16x2048x256 (constant S_ .f32 0x00000000#32)))))))))) (broadcastInDim S16x2048x256 ![] bcast_S_S16x2048x256 (constant S_ .f32 0x41800000#32))) shapeCasts_S16x2048x256_S32768x256 : FVec Ideal S32768x256 .f32) (ix2 r j)
      = logGateR (z (ix3 (tokBatch r) (tokStep r) j)) := by
  unfold logGateR tokBatch tokStep
  pointwise
  rw [if_neg (not_not.mpr rfl)]
  rfl

end Cert.Reference2Ideal.In

end
-- ==== Proof.In.Block.lean ====
/- UNTRUSTED — the input projection's block read at an index: two halves of 512 rows, each row normalised and multiplied
   by the columns of the projection. -/
module

public import proofs.«01_k».proof.Proof.In.FrameIdeal
public import proofs.«01_k».proof.Proof.In.Spec
public import Idealize.ShloMosaic.Lib.Pointwise
public import Idealize.ShloMosaic.Lib.Pipeline.ValueKit

@[expose] public section

set_option maxRecDepth 16384

noncomputable section

namespace Cert.Kernel2Ideal.In

open Cert.Kernel2Ideal Cert.Kernel2Ideal.Gen Idealize.ShloMosaic Cert.Rows

/-- The scale of the attention queries: the named constant, as an extended real. -/
abbrev qscale : EReal := Named.named (F := Ideal) κ "qscale" (φ := .f32) 0x3E38AA3B#32

theorem pay6_apply (v0 : Vec Ideal S512x1024 .f32) (v2 : Vec Ideal S1x1024 .f32) (r : Fin 512) (d : Fin 1024) :
    k0_pay6 v0 v2 (ix2 r d) = rms (fun k => v0 (ix2 r k)) (fun k => v2 (ix2 0 k)) d := by
  unfold rms Rows.inv
  pointwise [k0_pay6]

theorem pay7_apply (v0 : Vec Ideal S512x1024 .f32) (v2 : Vec Ideal S1x1024 .f32) (r : Fin 512) (d : Fin 1024) :
    k0_pay7 v0 v2 (ix2 r d) = rms (fun k => v0 (ix2 r k)) (fun k => v2 (ix2 0 k)) d := by
  unfold rms Rows.inv
  pointwise [k0_pay7]

theorem pay10_apply (h : Vec Ideal S512x1024 .bf16) (w : Vec Ideal S1024x128 .bf16) (r : Fin 512) (j : Fin 128) :
    k0_pay10 (F := Ideal) h w (ix2 r j) = lin (fun k => h (ix2 r k)) (fun k j => w (ix2 k j)) j := by
  unfold lin
  pointwise [k0_pay10]

theorem pay11_apply (h : Vec Ideal S512x1024 .bf16) (w : Vec Ideal S1024x512 .bf16) (r : Fin 512) (j : Fin 512) :
    k0_pay11 (F := Ideal) h w (ix2 r j) = lin (fun k => h (ix2 r k)) (fun k j => w (ix2 k j)) j * qscale := by
  unfold lin
  pointwise [k0_pay11]

theorem pay12_apply (h : Vec Ideal S512x1024 .bf16) (w : Vec Ideal S1024x512 .bf16) (r : Fin 512) (j : Fin 512) :
    k0_pay12 (F := Ideal) h w (ix2 r j) = lin (fun k => h (ix2 r k)) (fun k j => w (ix2 k j)) j * qscale := by
  unfold lin
  pointwise [k0_pay12]

theorem pay13_apply (h : Vec Ideal S512x1024 .bf16) (w : Vec Ideal S1024x512 .bf16) (r : Fin 512) (j : Fin 512) :
    k0_pay13 (F := Ideal) h w (ix2 r j) = lin (fun k => h (ix2 r k)) (fun k j => w (ix2 k j)) j := by
  unfold lin
  pointwise [k0_pay13]

theorem pay14_apply (h : Vec Ideal S512x1024 .bf16) (w : Vec Ideal S1024x512 .bf16) (r : Fin 512) (j : Fin 512) :
    k0_pay14 (F := Ideal) h w (ix2 r j) = lin (fun k => h (ix2 r k)) (fun k j => w (ix2 k j)) j := by
  unfold lin
  pointwise [k0_pay14]

theorem pay18_apply (h : Vec Ideal S512x1024 .bf16) (w : Vec Ideal S1024x512 .bf16) (r : Fin 512) (j : Fin 512) :
    k0_pay18 (F := Ideal) h w (ix2 j r) = lin (fun k => h (ix2 r k)) (fun k j => w (ix2 k j)) j := by
  unfold lin
  pointwise [k0_pay18]

theorem pay19_apply (h : Vec Ideal S512x1024 .bf16) (w : Vec Ideal S1024x512 .bf16) (r : Fin 512) (j : Fin 512) :
    k0_pay19 (F := Ideal) h w (ix2 j r) = lin (fun k => h (ix2 r k)) (fun k j => w (ix2 k j)) j := by
  unfold lin
  pointwise [k0_pay19]

theorem pay20_apply (h : Vec Ideal S512x1024 .bf16) (w : Vec Ideal S1024x256 .bf16) (r : Fin 512) (j : Fin 256) :
    k0_pay20 (F := Ideal) h w (ix2 r j) = lin (fun k => h (ix2 r k)) (fun k j => w (ix2 k j)) j * Ideal.ofBits .f32 0x3E000000#32 := by
  unfold lin
  pointwise [k0_pay20]

theorem pay22_apply (h : Vec Ideal S512x1024 .bf16) (w : Vec Ideal S1024x256 .bf16) (r : Fin 512) (j : Fin 256) :
    k0_pay22 (F := Ideal) h w (ix2 r j) = lin (fun k => h (ix2 r k)) (fun k j => w (ix2 k j)) j * Ideal.ofBits .f32 0x3E000000#32 := by
  unfold lin
  pointwise [k0_pay22]

theorem pay21_apply (h : Vec Ideal S512x1024 .bf16) (w : Vec Ideal S1024x256 .bf16) (r : Fin 512) (j : Fin 256) :
    k0_pay21 (F := Ideal) h w (ix2 r j) = lin (fun k => h (ix2 r k)) (fun k j => w (ix2 k j)) j := by
  unfold lin
  pointwise [k0_pay21]

theorem pay23_apply (h : Vec Ideal S512x1024 .bf16) (w : Vec Ideal S1024x256 .bf16) (r : Fin 512) (j : Fin 256) :
    k0_pay23 (F := Ideal) h w (ix2 r j) = lin (fun k => h (ix2 r k)) (fun k j => w (ix2 k j)) j := by
  unfold lin
  pointwise [k0_pay23]

theorem pay24_apply (h : Vec Ideal S512x1024 .bf16) (w : Vec Ideal S1024x512 .bf16) (r : Fin 512) (j : Fin 512) :
    k0_pay24 (F := Ideal) h w (ix2 r j) = lin (fun k => h (ix2 r k)) (fun k j => w (ix2 k j)) j := by
  unfold lin
  pointwise [k0_pay24]

theorem pay25_apply (h : Vec Ideal S512x1024 .bf16) (w : Vec Ideal S1024x512 .bf16) (r : Fin 512) (j : Fin 512) :
    k0_pay25 (F := Ideal) h w (ix2 r j) = lin (fun k => h (ix2 r k)) (fun k j => w (ix2 k j)) j := by
  unfold lin
  pointwise [k0_pay25]

theorem pay26_apply (h : Vec Ideal S512x1024 .bf16) (w : Vec Ideal S1024x512 .bf16) (r : Fin 512) (j : Fin 512) :
    k0_pay26 (F := Ideal) h w (ix2 r j) = lin (fun k => h (ix2 r k)) (fun k j => w (ix2 k j)) j := by
  unfold lin
  pointwise [k0_pay26]

theorem pay27_apply (h : Vec Ideal S512x1024 .bf16) (w : Vec Ideal S1024x512 .bf16) (r : Fin 512) (j : Fin 512) :
    k0_pay27 (F := Ideal) h w (ix2 r j) = lin (fun k => h (ix2 r k)) (fun k j => w (ix2 k j)) j := by
  unfold lin
  pointwise [k0_pay27]

theorem pay8_apply (v0 : Vec Ideal S512x1024 .f32) (v2 : Vec Ideal S1x1024 .f32) (w : Vec Ideal S1024x128 .bf16) (r : Fin 512) (j : Fin 128) :
    k0_pay8 v0 v2 w (ix2 r j) = lin (fun k => k0_pay6 v0 v2 (ix2 r k)) (fun k j => w (ix2 k j)) j := by
  unfold lin
  pointwise [k0_pay8]

theorem pay15_apply (h : Vec Ideal S512x128 .bf16) (w : Vec Ideal S128x256 .bf16) (r : Fin 512) (j : Fin 256) :
    k0_pay15 h w (ix2 r j) = lin (fun k => h (ix2 r k)) (fun k j => w (ix2 k j)) j := by
  unfold lin
  pointwise [k0_pay15]

theorem pay16_apply (z : Vec Ideal S512x256 .f32) (b : Vec Ideal S1x256 .f32) (r : Fin 512) (j : Fin 256) :
    k0_pay16 z b (ix2 r j) = logGateK (z (ix2 r j) + b (ix2 0 j)) := by
  unfold logGateK
  pointwise [k0_pay16]
  rfl

theorem pay17_apply (h : Vec Ideal S512x128 .bf16) (w : Vec Ideal S128x256 .bf16) (b : Vec Ideal S1x256 .f32) (r : Fin 512) (j : Fin 256) :
    k0_pay17 h w b (ix2 r j) = logGateK (lin (fun k => h (ix2 r k)) (fun k j => w (ix2 k j)) j + b (ix2 0 j)) := by
  have e : k0_pay17 h w b = k0_pay16 (k0_pay15 h w) b := rfl
  rw [e, pay16_apply, pay15_apply]

variable (x0 : Vec Ideal S1024x1024 .f32) (x1 : Vec Ideal S1x1024 .f32) (x2 : Vec Ideal S1024x3088 .bf16) (x3 : Vec Ideal S1024x512 .bf16) (x4 : Vec Ideal S1024x128 .bf16) (x5 : Vec Ideal S128x256 .bf16) (x6 : Vec Ideal S1x256 .f32) (x7 : Vec Ideal S32x1024 .f32) (x8 : Vec Ideal S32x1024 .f32) (x9 : Vec Ideal S32x2048 .f32) (x10 : Vec Ideal S32x1024 .f32) (x11 : Vec Ideal S32x4096 .f32) (x12 : Vec Ideal S128x1024 .f32)

/-- Row `i` of the block, normalised. -/
def row (i : Fin 1024) : Fin 1024 → EReal := rms (fun k => x0 (ix2 i k)) fun k => x1 (ix2 0 k)

/-- The first half's rows. -/
theorem rowA (r : Fin 512) : (fun d => k0_pay29 x0 x1 x2 x3 x4 x5 x6 x7 x8 x9 x10 x11 x12 (ix2 r d)) = row x0 x1 ⟨r.val, by omega⟩ := by
  funext d
  unfold k0_pay29
  rw [pay6_apply]
  unfold row
  congr 1 <;> funext k <;> pointwise

/-- The second half's rows. -/
theorem rowB (r : Fin 512) : (fun d => k0_pay30 x0 x1 x2 x3 x4 x5 x6 x7 x8 x9 x10 x11 x12 (ix2 r d)) = row x0 x1 ⟨512 + r.val, by omega⟩ := by
  funext d
  unfold k0_pay30
  rw [pay7_apply]
  unfold row
  congr 1 <;> funext k <;> pointwise

theorem w4_apply (w : Vec Ideal S1024x3088 .bf16) : (fun (k : Fin 1024) (j : Fin 512) => View.ld w r0_4 (ix2 k j)) = fun k j => w (ix2 k ⟨j.val, by omega⟩) := by
  funext k j
  pointwise

theorem w7_apply (w : Vec Ideal S1024x3088 .bf16) : (fun (k : Fin 1024) (j : Fin 512) => View.ld w r0_7 (ix2 k j)) = fun k j => w (ix2 k ⟨512 + j.val, by omega⟩) := by
  funext k j
  pointwise

theorem w14_apply (w : Vec Ideal S1024x3088 .bf16) : (fun (k : Fin 1024) (j : Fin 512) => View.ld w r0_14 (ix2 k j)) = fun k j => w (ix2 k ⟨1024 + j.val, by omega⟩) := by
  funext k j
  pointwise

theorem w17_apply (w : Vec Ideal S1024x3088 .bf16) : (fun (k : Fin 1024) (j : Fin 256) => View.ld w r0_17 (ix2 k j)) = fun k j => w (ix2 k ⟨1536 + j.val, by omega⟩) := by
  funext k j
  pointwise

theorem w18_apply (w : Vec Ideal S1024x3088 .bf16) : (fun (k : Fin 1024) (j : Fin 256) => View.ld w r0_18 (ix2 k j)) = fun k j => w (ix2 k ⟨1792 + j.val, by omega⟩) := by
  funext k j
  pointwise

theorem w19_apply (w : Vec Ideal S1024x3088 .bf16) : (fun (k : Fin 1024) (j : Fin 512) => View.ld w r0_19 (ix2 k j)) = fun k j => w (ix2 k ⟨2048 + j.val, by omega⟩) := by
  funext k j
  pointwise

theorem w22_apply (w : Vec Ideal S1024x512 .bf16) : (fun (k : Fin 1024) (j : Fin 512) => View.ld w r0_22 (ix2 k j)) = fun k j => w (ix2 k ⟨j.val, by omega⟩) := by
  funext k j
  pointwise

theorem w3_apply (w : Vec Ideal S1024x128 .bf16) : (fun (k : Fin 1024) (j : Fin 128) => View.ld w r0_3 (ix2 k j)) = fun k j => w (ix2 k j) := by
  funext k j
  pointwise

theorem w10_apply (w : Vec Ideal S128x256 .bf16) : (fun (k : Fin 128) (j : Fin 256) => View.ld w r0_10 (ix2 k j)) = fun k j => w (ix2 k j) := by
  funext k j
  pointwise

theorem b11_apply (b : Vec Ideal S1x256 .f32) (j : Fin 256) : View.ld b r0_11 (ix2 0 j) = b (ix2 0 j) := by
  pointwise

/-- The queries and keys of the attention heads, the queries scaled. -/
theorem out0_13_apply (i : Fin 1024) (j : Fin 1024) : out0_13 x0 x1 x2 x3 x4 x5 x6 x7 x8 x9 x10 x11 x12 (ix2 i j) = qkRow qscale (row x0 x1 i) (fun k j => x2 (ix2 k j)) j := by
  unfold out0_13
  canon_tiles y hy
  · obtain ⟨r, e, rfl⟩ : ∃ (r : Fin 512) (e : Fin 512), y = ix2 r e := ⟨y 0, y 1, eq_ix2 y⟩
    refine (pay14_apply _ _ _ _).trans ?_
    rw [rowB x0 x1 x2 x3 x4 x5 x6 x7 x8 x9 x10 x11 x12 r, w7_apply]
    have e0 : i = ⟨512 + r.val, by omega⟩ := Fin.ext hy0
    have e1 : j = ⟨512 + e.val, by omega⟩ := Fin.ext hy1
    rw [e0, e1]
    exact (if_neg (show ¬ 512 + e.val < 512 by omega)).symm
  · obtain ⟨r, e, rfl⟩ : ∃ (r : Fin 512) (e : Fin 512), y = ix2 r e := ⟨y 0, y 1, eq_ix2 y⟩
    refine (pay13_apply _ _ _ _).trans ?_
    rw [rowA x0 x1 x2 x3 x4 x5 x6 x7 x8 x9 x10 x11 x12 r, w7_apply]
    have e0 : i = ⟨r.val, by omega⟩ := Fin.ext hy0
    have e1 : j = ⟨512 + e.val, by omega⟩ := Fin.ext hy1
    rw [e0, e1]
    exact (if_neg (show ¬ 512 + e.val < 512 by omega)).symm
  · obtain ⟨r, e, rfl⟩ : ∃ (r : Fin 512) (e : Fin 512), y = ix2 r e := ⟨y 0, y 1, eq_ix2 y⟩
    refine (pay12_apply _ _ _ _).trans ?_
    rw [rowB x0 x1 x2 x3 x4 x5 x6 x7 x8 x9 x10 x11 x12 r, w4_apply]
    have e0 : i = ⟨512 + r.val, by omega⟩ := Fin.ext hy0
    have e1 : j = ⟨e.val, by omega⟩ := Fin.ext hy1
    rw [e0, e1]
    exact (if_pos (show e.val < 512 by omega)).symm
  · obtain ⟨r, e, rfl⟩ : ∃ (r : Fin 512) (e : Fin 512), y = ix2 r e := ⟨y 0, y 1, eq_ix2 y⟩
    refine (pay11_apply _ _ _ _).trans ?_
    rw [rowA x0 x1 x2 x3 x4 x5 x6 x7 x8 x9 x10 x11 x12 r, w4_apply]
    have e0 : i = ⟨r.val, by omega⟩ := Fin.ext hy0
    have e1 : j = ⟨e.val, by omega⟩ := Fin.ext hy1
    rw [e0, e1]
    exact (if_pos (show e.val < 512 by omega)).symm

/-- The attention heads' values, transposed. -/
theorem out0_14_apply (i : Fin 512) (j : Fin 1024) : out0_14 x0 x1 x2 x3 x4 x5 x6 x7 x8 x9 x10 x11 x12 (ix2 i j) = part 1024 (by omega) (row x0 x1 j) (fun k j => x2 (ix2 k j)) i := by
  unfold out0_14
  canon_tiles y hy
  · obtain ⟨r, e, rfl⟩ : ∃ (r : Fin 512) (e : Fin 512), y = ix2 r e := ⟨y 0, y 1, eq_ix2 y⟩
    refine (pay19_apply _ _ _ _).trans ?_
    rw [rowB x0 x1 x2 x3 x4 x5 x6 x7 x8 x9 x10 x11 x12 e, w14_apply]
    have e0 : i = ⟨r.val, by omega⟩ := Fin.ext hy0
    have e1 : j = ⟨512 + e.val, by omega⟩ := Fin.ext hy1
    rw [e0, e1]
    rfl
  · obtain ⟨r, e, rfl⟩ : ∃ (r : Fin 512) (e : Fin 512), y = ix2 r e := ⟨y 0, y 1, eq_ix2 y⟩
    refine (pay18_apply _ _ _ _).trans ?_
    rw [rowA x0 x1 x2 x3 x4 x5 x6 x7 x8 x9 x10 x11 x12 e, w14_apply]
    have e0 : i = ⟨r.val, by omega⟩ := Fin.ext hy0
    have e1 : j = ⟨e.val, by omega⟩ := Fin.ext hy1
    rw [e0, e1]
    rfl

/-- The queries of the gated heads, scaled. -/
theorem out0_15_apply (i : Fin 1024) (j : Fin 256) : out0_15 x0 x1 x2 x3 x4 x5 x6 x7 x8 x9 x10 x11 x12 (ix2 i j) = part 1536 (by omega) (row x0 x1 i) (fun k j => x2 (ix2 k j)) j * Ideal.ofBits .f32 0x3E000000#32 := by
  unfold out0_15
  canon_tiles y hy
  · obtain ⟨r, e, rfl⟩ : ∃ (r : Fin 512) (e : Fin 256), y = ix2 r e := ⟨y 0, y 1, eq_ix2 y⟩
    refine (pay22_apply _ _ _ _).trans ?_
    rw [rowB x0 x1 x2 x3 x4 x5 x6 x7 x8 x9 x10 x11 x12 r, w17_apply]
    have e0 : i = ⟨512 + r.val, by omega⟩ := Fin.ext hy0
    have e1 : j = ⟨e.val, by omega⟩ := Fin.ext hy1
    rw [e0, e1]
    rfl
  · obtain ⟨r, e, rfl⟩ : ∃ (r : Fin 512) (e : Fin 256), y = ix2 r e := ⟨y 0, y 1, eq_ix2 y⟩
    refine (pay20_apply _ _ _ _).trans ?_
    rw [rowA x0 x1 x2 x3 x4 x5 x6 x7 x8 x9 x10 x11 x12 r, w17_apply]
    have e0 : i = ⟨r.val, by omega⟩ := Fin.ext hy0
    have e1 : j = ⟨e.val, by omega⟩ := Fin.ext hy1
    rw [e0, e1]
    rfl

/-- The keys of the gated heads. -/
theorem out0_16_apply (i : Fin 1024) (j : Fin 256) : out0_16 x0 x1 x2 x3 x4 x5 x6 x7 x8 x9 x10 x11 x12 (ix2 i j) = part 1792 (by omega) (row x0 x1 i) (fun k j => x2 (ix2 k j)) j := by
  unfold out0_16
  canon_tiles y hy
  · obtain ⟨r, e, rfl⟩ : ∃ (r : Fin 512) (e : Fin 256), y = ix2 r e := ⟨y 0, y 1, eq_ix2 y⟩
    refine (pay23_apply _ _ _ _).trans ?_
    rw [rowB x0 x1 x2 x3 x4 x5 x6 x7 x8 x9 x10 x11 x12 r, w18_apply]
    have e0 : i = ⟨512 + r.val, by omega⟩ := Fin.ext hy0
    have e1 : j = ⟨e.val, by omega⟩ := Fin.ext hy1
    rw [e0, e1]
    rfl
  · obtain ⟨r, e, rfl⟩ : ∃ (r : Fin 512) (e : Fin 256), y = ix2 r e := ⟨y 0, y 1, eq_ix2 y⟩
    refine (pay21_apply _ _ _ _).trans ?_
    rw [rowA x0 x1 x2 x3 x4 x5 x6 x7 x8 x9 x10 x11 x12 r, w18_apply]
    have e0 : i = ⟨r.val, by omega⟩ := Fin.ext hy0
    have e1 : j = ⟨e.val, by omega⟩ := Fin.ext hy1
    rw [e0, e1]
    rfl

/-- The values of the gated heads. -/
theorem out0_18_apply (i : Fin 1024) (j : Fin 512) : out0_18 x0 x1 x2 x3 x4 x5 x6 x7 x8 x9 x10 x11 x12 (ix2 i j) = part 2048 (by omega) (row x0 x1 i) (fun k j => x2 (ix2 k j)) j := by
  unfold out0_18
  canon_tiles y hy
  · obtain ⟨r, e, rfl⟩ : ∃ (r : Fin 512) (e : Fin 512), y = ix2 r e := ⟨y 0, y 1, eq_ix2 y⟩
    refine (pay25_apply _ _ _ _).trans ?_
    rw [rowB x0 x1 x2 x3 x4 x5 x6 x7 x8 x9 x10 x11 x12 r, w19_apply]
    have e0 : i = ⟨512 + r.val, by omega⟩ := Fin.ext hy0
    have e1 : j = ⟨e.val, by omega⟩ := Fin.ext hy1
    rw [e0, e1]
    rfl
  · obtain ⟨r, e, rfl⟩ : ∃ (r : Fin 512) (e : Fin 512), y = ix2 r e := ⟨y 0, y 1, eq_ix2 y⟩
    refine (pay24_apply _ _ _ _).trans ?_
    rw [rowA x0 x1 x2 x3 x4 x5 x6 x7 x8 x9 x10 x11 x12 r, w19_apply]
    have e0 : i = ⟨r.val, by omega⟩ := Fin.ext hy0
    have e1 : j = ⟨e.val, by omega⟩ := Fin.ext hy1
    rw [e0, e1]
    rfl

/-- The output gate, before its activation. -/
theorem out0_19_apply (i : Fin 1024) (j : Fin 512) : out0_19 x0 x1 x2 x3 x4 x5 x6 x7 x8 x9 x10 x11 x12 (ix2 i j) = lin (row x0 x1 i) (fun k j => x3 (ix2 k j)) j := by
  unfold out0_19
  canon_tiles y hy
  · obtain ⟨r, e, rfl⟩ : ∃ (r : Fin 512) (e : Fin 512), y = ix2 r e := ⟨y 0, y 1, eq_ix2 y⟩
    refine (pay27_apply _ _ _ _).trans ?_
    rw [rowB x0 x1 x2 x3 x4 x5 x6 x7 x8 x9 x10 x11 x12 r, w22_apply]
    have e0 : i = ⟨512 + r.val, by omega⟩ := Fin.ext hy0
    have e1 : j = ⟨e.val, by omega⟩ := Fin.ext hy1
    rw [e0, e1]
  · obtain ⟨r, e, rfl⟩ : ∃ (r : Fin 512) (e : Fin 512), y = ix2 r e := ⟨y 0, y 1, eq_ix2 y⟩
    refine (pay26_apply _ _ _ _).trans ?_
    rw [rowA x0 x1 x2 x3 x4 x5 x6 x7 x8 x9 x10 x11 x12 r, w22_apply]
    have e0 : i = ⟨r.val, by omega⟩ := Fin.ext hy0
    have e1 : j = ⟨e.val, by omega⟩ := Fin.ext hy1
    rw [e0, e1]

/-- The logarithm of the forget gate. -/
theorem out0_17_apply (i : Fin 1024) (j : Fin 256) : out0_17 x0 x1 x2 x3 x4 x5 x6 x7 x8 x9 x10 x11 x12 (ix2 i j) = logGateK (lin (fun q => lin (row x0 x1 i) (fun k q => x4 (ix2 k q)) q) (fun q j => x5 (ix2 q j)) j + x6 (ix2 0 j)) := by
  unfold out0_17
  canon_tiles y hy
  · obtain ⟨r, e, rfl⟩ : ∃ (r : Fin 512) (e : Fin 256), y = ix2 r e := ⟨y 0, y 1, eq_ix2 y⟩
    refine (pay17_apply _ _ _ _ _).trans ?_
    have e9 : k0_pay9 (View.ld x4 r0_3) = View.ld x4 r0_3 := by unfold k0_pay9; exact shapeCast_self _ _
    rw [e9, b11_apply, w10_apply]
    simp only [pay10_apply]
    rw [rowB x0 x1 x2 x3 x4 x5 x6 x7 x8 x9 x10 x11 x12 r, w3_apply]
    have e0 : i = ⟨512 + r.val, by omega⟩ := Fin.ext hy0
    have e1 : j = ⟨e.val, by omega⟩ := Fin.ext hy1
    rw [e0, e1]
  · obtain ⟨r, e, rfl⟩ : ∃ (r : Fin 512) (e : Fin 256), y = ix2 r e := ⟨y 0, y 1, eq_ix2 y⟩
    refine (pay16_apply _ _ _ _).trans ?_
    rw [pay15_apply, b11_apply, w10_apply]
    simp only [pay8_apply]
    have eA := rowA x0 x1 x2 x3 x4 x5 x6 x7 x8 x9 x10 x11 x12 r
    unfold k0_pay29 at eA
    rw [eA, w3_apply]
    have e0 : i = ⟨r.val, by omega⟩ := Fin.ext hy0
    have e1 : j = ⟨e.val, by omega⟩ := Fin.ext hy1
    rw [e0, e1]

/-- A block of the output projection, copied. -/
theorem out0_20_apply (i : Fin 32) (j : Fin 1024) : out0_20 x0 x1 x2 x3 x4 x5 x6 x7 x8 x9 x10 x11 x12 (ix2 i j) = x7 (ix2 i j) := by
  unfold out0_20
  canon_tiles y hy
  obtain ⟨r, e, rfl⟩ : ∃ (r : Fin 32) (e : Fin 1024), y = ix2 r e := ⟨y 0, y 1, eq_ix2 y⟩
  have e0 : i = ⟨r.val, by omega⟩ := Fin.ext hy0
  have e1 : j = ⟨e.val, by omega⟩ := Fin.ext hy1
  rw [e0, e1]
  pointwise [k0_pay28]

/-- A block of the cross-attention queries' projection, copied. -/
theorem out0_21_apply (i : Fin 32) (j : Fin 1024) : out0_21 x0 x1 x2 x3 x4 x5 x6 x7 x8 x9 x10 x11 x12 (ix2 i j) = x8 (ix2 i j) := by
  unfold out0_21
  canon_tiles y hy
  obtain ⟨r, e, rfl⟩ : ∃ (r : Fin 32) (e : Fin 1024), y = ix2 r e := ⟨y 0, y 1, eq_ix2 y⟩
  have e0 : i = ⟨r.val, by omega⟩ := Fin.ext hy0
  have e1 : j = ⟨e.val, by omega⟩ := Fin.ext hy1
  rw [e0, e1]
  pointwise [k0_pay1]

/-- A block of the memory's projection, copied. -/
theorem out0_22_apply (i : Fin 32) (j : Fin 2048) : out0_22 x0 x1 x2 x3 x4 x5 x6 x7 x8 x9 x10 x11 x12 (ix2 i j) = x9 (ix2 i j) := by
  unfold out0_22
  canon_tiles y hy
  obtain ⟨r, e, rfl⟩ : ∃ (r : Fin 32) (e : Fin 2048), y = ix2 r e := ⟨y 0, y 1, eq_ix2 y⟩
  have e0 : i = ⟨r.val, by omega⟩ := Fin.ext hy0
  have e1 : j = ⟨e.val, by omega⟩ := Fin.ext hy1
  rw [e0, e1]
  pointwise [k0_pay2]

/-- A block of the cross-attention output projection, copied. -/
theorem out0_23_apply (i : Fin 32) (j : Fin 1024) : out0_23 x0 x1 x2 x3 x4 x5 x6 x7 x8 x9 x10 x11 x12 (ix2 i j) = x10 (ix2 i j) := by
  unfold out0_23
  canon_tiles y hy
  obtain ⟨r, e, rfl⟩ : ∃ (r : Fin 32) (e : Fin 1024), y = ix2 r e := ⟨y 0, y 1, eq_ix2 y⟩
  have e0 : i = ⟨r.val, by omega⟩ := Fin.ext hy0
  have e1 : j = ⟨e.val, by omega⟩ := Fin.ext hy1
  rw [e0, e1]
  pointwise [k0_pay3]

/-- A block of the feed-forward step's first matrix, copied. -/
theorem out0_24_apply (i : Fin 32) (j : Fin 4096) : out0_24 x0 x1 x2 x3 x4 x5 x6 x7 x8 x9 x10 x11 x12 (ix2 i j) = x11 (ix2 i j) := by
  unfold out0_24
  canon_tiles y hy
  obtain ⟨r, e, rfl⟩ : ∃ (r : Fin 32) (e : Fin 4096), y = ix2 r e := ⟨y 0, y 1, eq_ix2 y⟩
  have e0 : i = ⟨r.val, by omega⟩ := Fin.ext hy0
  have e1 : j = ⟨e.val, by omega⟩ := Fin.ext hy1
  rw [e0, e1]
  pointwise [k0_pay4]

/-- A block of the feed-forward step's second matrix, copied. -/
theorem out0_25_apply (i : Fin 128) (j : Fin 1024) : out0_25 x0 x1 x2 x3 x4 x5 x6 x7 x8 x9 x10 x11 x12 (ix2 i j) = x12 (ix2 i j) := by
  unfold out0_25
  canon_tiles y hy
  obtain ⟨r, e, rfl⟩ : ∃ (r : Fin 128) (e : Fin 1024), y = ix2 r e := ⟨y 0, y 1, eq_ix2 y⟩
  have e0 : i = ⟨r.val, by omega⟩ := Fin.ext hy0
  have e1 : j = ⟨e.val, by omega⟩ := Fin.ext hy1
  rw [e0, e1]
  pointwise [k0_pay5]

end Cert.Kernel2Ideal.In

end
-- ==== Proof.In.Host.lean ====
/- UNTRUSTED — the arrays the input projection is entered with, read back to the arguments through the host's slices,
   reshapes, casts and padding. -/
module

public import proofs.«01_k».proof.Proof.In.Block
public import Idealize.ShloMosaic.Lib.KernelVsHost

@[expose] public section

set_option maxRecDepth 16384

noncomputable section

namespace Cert.Kernel2Ideal.In

open Idealize.ShloMosaic Idealize.ShloMosaic.TcCoe Idealize.SL.Sem
open Cert.Kernel2Ideal Cert.Kernel2Ideal.Gen Cert.Rows

variable (m : (ℓ : Loc nD τ sig) → Buf (Elt Ideal) ℓ)

/-- The tokens, flattened. -/
theorem host0 (c : Dev nD) (r : Fin 32768) (d : Fin 1024) :
    V m c main_v0 (ix2 r d) = m ((c : Thread nD τ).loc main_arg0) (ix3 (tokBatch r) (tokStep r) d) := by
  unfold tokBatch tokStep
  simp only [V, hostOps0, hostOps0_1, hostOps0_2, hostOps0_3, hostOps0_4, List.flatten_cons, List.flatten_nil, List.append_nil, List.cons_append, List.nil_append]
  after_results
  pointwise
/-- The gain. -/
theorem host15 (c : Dev nD) (k : Fin 1024) : V m c main_v15 (ix2 0 k) = m ((c : Thread nD τ).loc main_arg1) (ix2 0 k) := by
  simp only [V, hostOps0, hostOps0_1, hostOps0_2, hostOps0_3, hostOps0_4, List.flatten_cons, List.flatten_nil, List.append_nil, List.cons_append, List.nil_append]
  after_results
  pointwise
/-- The projection's columns. -/
theorem host17 (c : Dev nD) (k : Fin 1024) (j : Fin 3088) : V m c main_v17 (ix2 k j) = m ((c : Thread nD τ).loc main_arg2) (ix3 0 k j) := by
  simp only [V, hostOps0, hostOps0_1, hostOps0_2, hostOps0_3, hostOps0_4, List.flatten_cons, List.flatten_nil, List.append_nil, List.cons_append, List.nil_append]
  after_results
  pointwise
/-- The output gate's columns. -/
theorem host20 (c : Dev nD) (k : Fin 1024) (j : Fin 512) : V m c main_v20 (ix2 k j) = m ((c : Thread nD τ).loc main_arg2) (ix3 0 k ⟨2576 + j.val, by omega⟩) := by
  simp only [V, hostOps0, hostOps0_1, hostOps0_2, hostOps0_3, hostOps0_4, List.flatten_cons, List.flatten_nil, List.append_nil, List.cons_append, List.nil_append]
  after_results
  pointwise
/-- The forget gate's bias. -/
theorem host22 (c : Dev nD) (j : Fin 256) : V m c main_v22 (ix2 0 j) = m ((c : Thread nD τ).loc main_arg4) (ix2 0 j) := by
  simp only [V, hostOps0, hostOps0_1, hostOps0_2, hostOps0_3, hostOps0_4, List.flatten_cons, List.flatten_nil, List.append_nil, List.cons_append, List.nil_append]
  after_results
  pointwise
/-- A later matrix. -/
theorem host8 (c : Dev nD) (k : Fin 1024) (j : Fin 1024) : V m c main_v8 (ix2 k j) = m ((c : Thread nD τ).loc main_arg5) (ix3 0 k j) := by
  simp only [V, hostOps0, hostOps0_1, hostOps0_2, hostOps0_3, hostOps0_4, List.flatten_cons, List.flatten_nil, List.append_nil, List.cons_append, List.nil_append]
  after_results
  pointwise
/-- A later matrix. -/
theorem host9 (c : Dev nD) (k : Fin 1024) (j : Fin 1024) : V m c main_v9 (ix2 k j) = m ((c : Thread nD τ).loc main_arg6) (ix3 0 k j) := by
  simp only [V, hostOps0, hostOps0_1, hostOps0_2, hostOps0_3, hostOps0_4, List.flatten_cons, List.flatten_nil, List.append_nil, List.cons_append, List.nil_append]
  after_results
  pointwise
/-- A later matrix. -/
theorem host10 (c : Dev nD) (k : Fin 1024) (j : Fin 2048) : V m c main_v10 (ix2 k j) = m ((c : Thread nD τ).loc main_arg7) (ix3 0 k j) := by
  simp only [V, hostOps0, hostOps0_1, hostOps0_2, hostOps0_3, hostOps0_4, List.flatten_cons, List.flatten_nil, List.append_nil, List.cons_append, List.nil_append]
  after_results
  pointwise
/-- A later matrix. -/
theorem host11 (c : Dev nD) (k : Fin 1024) (j : Fin 1024) : V m c main_v11 (ix2 k j) = m ((c : Thread nD τ).loc main_arg8) (ix3 0 k j) := by
  simp only [V, hostOps0, hostOps0_1, hostOps0_2, hostOps0_3, hostOps0_4, List.flatten_cons, List.flatten_nil, List.append_nil, List.cons_append, List.nil_append]
  after_results
  pointwise
/-- A later matrix. -/
theorem host12 (c : Dev nD) (k : Fin 1024) (j : Fin 4096) : V m c main_v12 (ix2 k j) = m ((c : Thread nD τ).loc main_arg9) (ix3 0 k j) := by
  simp only [V, hostOps0, hostOps0_1, hostOps0_2, hostOps0_3, hostOps0_4, List.flatten_cons, List.flatten_nil, List.append_nil, List.cons_append, List.nil_append]
  after_results
  pointwise
/-- A later matrix. -/
theorem host13 (c : Dev nD) (k : Fin 4096) (j : Fin 1024) : V m c main_v13 (ix2 k j) = m ((c : Thread nD τ).loc main_arg10) (ix3 0 k j) := by
  simp only [V, hostOps0, hostOps0_1, hostOps0_2, hostOps0_3, hostOps0_4, List.flatten_cons, List.flatten_nil, List.append_nil, List.cons_append, List.nil_append]
  after_results
  pointwise
/-- A matrix padded with zero columns, at an index. -/
theorem padCols (x : Vec Ideal S1024x16 .bf16) (v : Vec Ideal S_ .bf16) (hv : ∀ i, v i = (0 : EReal)) (k : Fin 1024) (q : Fin 128) :
    pad S1024x128 ![0, 0] ![0, 112] ![0, 0] x v pads_S1024x16_S1024x128_000_01120 h_S_ (ix2 k q) = if h : q.val < 16 then x (ix2 k ⟨q.val, h⟩) else (0 : EReal) := by
  by_cases h : q.val < 16
  · rw [dif_pos h]
    exact pad_apply_of_inside _ _ _ x v pads_S1024x16_S1024x128_000_01120 h_S_ (ix2 k q) (ix2 k ⟨q.val, h⟩)
      (fun a => match a with | ⟨0, _⟩ => by simp [ix2] | ⟨1, _⟩ => by simp [ix2])
  · rw [dif_neg h]
    exact (pad_apply_of_not_inside _ _ _ x v pads_S1024x16_S1024x128_000_01120 h_S_ (ix2 k q) (1 : Fin 2) (by simp [ix2, Nat.mod_one]; omega)).trans (hv _)
/-- A matrix padded with zero rows, at an index. -/
theorem padRows (x : Vec Ideal S16x256 .bf16) (v : Vec Ideal S_ .bf16) (hv : ∀ i, v i = (0 : EReal)) (q : Fin 128) (j : Fin 256) :
    pad S128x256 ![0, 0] ![112, 0] ![0, 0] x v pads_S16x256_S128x256_01120_000 h_S_ (ix2 q j) = if h : q.val < 16 then x (ix2 ⟨q.val, h⟩ j) else (0 : EReal) := by
  by_cases h : q.val < 16
  · rw [dif_pos h]
    exact pad_apply_of_inside _ _ _ x v pads_S16x256_S128x256_01120_000 h_S_ (ix2 q j) (ix2 ⟨q.val, h⟩ j)
      (fun a => match a with | ⟨0, _⟩ => by simp [ix2] | ⟨1, _⟩ => by simp [ix2])
  · rw [dif_neg h]
    exact (pad_apply_of_not_inside _ _ _ x v pads_S16x256_S128x256_01120_000 h_S_ (ix2 q j) (0 : Fin 2) (by simp [ix2, Nat.mod_one]; omega)).trans (hv _)
/-- The padding value is zero. -/
theorem padZero (i : S_.Idx) : (sitofp (F := Ideal) .bf16 (constantI S_ 32 0#32)) i = (0 : EReal) := by
  show ((((0#32 : BitVec 32).toInt : ℝ)) : EReal) = 0
  simp
/-- The forget gate's columns, padded. -/
theorem host4 (c : Dev nD) (k : Fin 1024) (q : Fin 128) : V m c main_v4 (ix2 k q) = if h : q.val < 16 then m ((c : Thread nD τ).loc main_arg2) (ix3 0 k ⟨2560 + q.val, by omega⟩) else (0 : EReal) := by
  simp only [V, hostOps0, hostOps0_1, hostOps0_2, hostOps0_3, hostOps0_4, List.flatten_cons, List.flatten_nil, List.append_nil, List.cons_append, List.nil_append]
  after_results
  refine (padCols _ _ padZero k q).trans ?_
  pointwise
  rfl
/-- The forget gate's matrix, padded. -/
theorem host7 (c : Dev nD) (q : Fin 128) (j : Fin 256) : V m c main_v7 (ix2 q j) = if h : q.val < 16 then m ((c : Thread nD τ).loc main_arg3) (ix3 0 ⟨q.val, h⟩ j) else (0 : EReal) := by
  simp only [V, hostOps0, hostOps0_1, hostOps0_2, hostOps0_3, hostOps0_4, List.flatten_cons, List.flatten_nil, List.append_nil, List.cons_append, List.nil_append]
  after_results
  refine (padRows _ _ padZero q j).trans ?_
  pointwise
  rfl

end Cert.Kernel2Ideal.In

end
-- ==== Proof.In.Array.lean ====
/- UNTRUSTED — the thirteen arrays the input projection leaves, each as one function of the arguments. -/
module

public import proofs.«01_k».proof.Proof.In.Host

@[expose] public section

set_option maxRecDepth 16384

noncomputable section

namespace Cert.Kernel2Ideal.In

open Idealize.ShloMosaic Idealize.ShloMosaic.TcCoe Idealize.SL.Sem
open Cert.Kernel2Ideal Cert.Kernel2Ideal.Gen Cert.Rows

/-- A token's row, normalised. -/
def hrow (a0 : Vec Ideal S16x2048x1024 .f32) (a1 : Vec Ideal S1x1024 .f32) (r : Fin 32768) : Fin 1024 → EReal :=
  rms (fun k => a0 (ix3 (tokBatch r) (tokStep r) k)) fun k => a1 (ix2 0 k)

/-- The projection's columns. -/
def cols (a2 : Vec Ideal S1x1024x3088 .f32) : Fin 1024 → Fin 3088 → EReal := fun k j => a2 (ix3 0 k j)

/-- The attention heads' queries and keys. -/
def vQk (a0 : Vec Ideal S16x2048x1024 .f32) (a1 : Vec Ideal S1x1024 .f32) (a2 : Vec Ideal S1x1024x3088 .f32) : Vec Ideal S32768x1024 .bf16 := fun i =>
  qkRow qscale (hrow a0 a1 (i 0)) (cols a2) (i 1)

/-- The attention heads' values, transposed. -/
def vVt (a0 : Vec Ideal S16x2048x1024 .f32) (a1 : Vec Ideal S1x1024 .f32) (a2 : Vec Ideal S1x1024x3088 .f32) : Vec Ideal S512x32768 .bf16 := fun i =>
  part (n := 512) 1024 (by omega) (hrow a0 a1 (i 1)) (cols a2) (i 0)

/-- The gated heads' queries, scaled. -/
def vQg (a0 : Vec Ideal S16x2048x1024 .f32) (a1 : Vec Ideal S1x1024 .f32) (a2 : Vec Ideal S1x1024x3088 .f32) : Vec Ideal S32768x256 .f32 := fun i =>
  part (n := 256) 1536 (by omega) (hrow a0 a1 (i 0)) (cols a2) (i 1) * Ideal.ofBits .f32 0x3E000000#32

/-- The gated heads' keys. -/
def vKg (a0 : Vec Ideal S16x2048x1024 .f32) (a1 : Vec Ideal S1x1024 .f32) (a2 : Vec Ideal S1x1024x3088 .f32) : Vec Ideal S32768x256 .f32 := fun i =>
  part (n := 256) 1792 (by omega) (hrow a0 a1 (i 0)) (cols a2) (i 1)

/-- The logarithm of the forget gate. -/
def vLa (a0 : Vec Ideal S16x2048x1024 .f32) (a1 : Vec Ideal S1x1024 .f32) (a2 : Vec Ideal S1x1024x3088 .f32) (a3 : Vec Ideal S1x16x256 .f32) (a4 : Vec Ideal S1x256 .f32) : Vec Ideal S32768x256 .f32 := fun i =>
  logGateK (gate (hrow a0 a1 (i 0)) (cols a2) (fun q j => a3 (ix3 0 q j)) (fun j => a4 (ix2 0 j)) (i 1))

/-- The gated heads' values. -/
def vVg (a0 : Vec Ideal S16x2048x1024 .f32) (a1 : Vec Ideal S1x1024 .f32) (a2 : Vec Ideal S1x1024x3088 .f32) : Vec Ideal S32768x512 .bf16 := fun i =>
  part (n := 512) 2048 (by omega) (hrow a0 a1 (i 0)) (cols a2) (i 1)

/-- The output gate, before its activation. -/
def vRg (a0 : Vec Ideal S16x2048x1024 .f32) (a1 : Vec Ideal S1x1024 .f32) (a2 : Vec Ideal S1x1024x3088 .f32) : Vec Ideal S32768x512 .f32 := fun i =>
  part (n := 512) 2576 (by omega) (hrow a0 a1 (i 0)) (cols a2) (i 1)

/-- A later matrix without its unit axis. -/
def vMat {n k : Nat} (a : Vec Ideal ⟨3, ![1, n, k]⟩ .f32) : Vec Ideal ⟨2, ![n, k]⟩ .bf16 := fun i => a (ix3 0 (i 0) (i 1))

/-- The padded gate product is the product over the 16 columns that are there: the padded rows are zero. -/
theorem gate_pad (h : Fin 1024 → EReal) (w : Fin 1024 → Fin 3088 → EReal) (u : Fin 16 → Fin 256 → EReal) (j : Fin 256) :
    lin (fun q => lin h (fun k (q : Fin 128) => if hq : q.val < 16 then w k ⟨2560 + q.val, by omega⟩ else 0) q)
      (fun (q : Fin 128) j => if hq : q.val < 16 then u ⟨q.val, hq⟩ j else 0) j = lin (part (n := 16) 2560 (by omega) h w) u j := by
  unfold part
  conv_lhs => unfold lin
  conv_rhs => unfold lin
  rw [Fin.sum_univ_two_halves 16 112 rfl]
  have hz : ∀ k : Fin 112, (∑ x, h x * (if hq : 16 + k.val < 16 then w x ⟨2560 + (16 + k.val), by omega⟩ else 0)) * (if hq : 16 + k.val < 16 then u ⟨16 + k.val, hq⟩ j else 0) = 0 := by
    intro k
    rw [dif_neg (by omega : ¬ 16 + k.val < 16), mul_zero]
  refine (congrArg₂ (· + ·) ?_ ((Finset.sum_congr rfl fun k _ => hz k).trans Finset.sum_const_zero)).trans (add_zero _)
  refine Finset.sum_congr rfl fun q _ => ?_
  have hq : q.val < 16 := q.isLt
  simp only [hq, dite_true]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![0, t.val] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![t.val, 0] := (by decide +kernel : ∀ t : Fin grid0.N, _)
theorem idx20 : ∀ t : Fin cfg0.N, win0_20.index t = ![t.val, 0] := (by decide +kernel : ∀ t : Fin grid0.N, _)
theorem idx21 : ∀ t : Fin cfg0.N, win0_21.index t = ![t.val, 0] := (by decide +kernel : ∀ t : Fin grid0.N, _)
theorem idx22 : ∀ t : Fin cfg0.N, win0_22.index t = ![t.val, 0] := (by decide +kernel : ∀ t : Fin grid0.N, _)
theorem idx23 : ∀ t : Fin cfg0.N, win0_23.index t = ![t.val, 0] := (by decide +kernel : ∀ t : Fin grid0.N, _)
theorem idx24 : ∀ t : Fin cfg0.N, win0_24.index t = ![t.val, 0] := (by decide +kernel : ∀ t : Fin grid0.N, _)
theorem idx25 : ∀ t : Fin cfg0.N, win0_25.index t = ![t.val, 0] := (by decide +kernel : ∀ t : Fin grid0.N, _)

/-- The token that row `r` of grid point `t`'s block is. -/
def token (t : Fin cfg0.N) (r : Fin 1024) : Fin 32768 := ⟨t.val * 1024 + r.val, by have := t.isLt; have h : cfg0.N = 32 := N_0; omega⟩

/-- The row of a matrix of 1024 rows that row `r` of grid point `t`'s block is. -/
def rowAt (t : Fin cfg0.N) (r : Fin 32) : Fin 1024 := ⟨t.val * 32 + r.val, by have := t.isLt; have h : cfg0.N = 32 := N_0; omega⟩

/-- The row of a matrix of 4096 rows that row `r` of grid point `t`'s block is. -/
def rowAt4 (t : Fin cfg0.N) (r : Fin 128) : Fin 4096 := ⟨t.val * 128 + r.val, by have := t.isLt; have h : cfg0.N = 32 := N_0; omega⟩

/-- What each input block holds, read from its array. -/
theorem read0 (c : Dev nD) (t : Fin cfg0.N) (r k : Fin 1024) : iblk m c 0 t (ix2 r k) = V m c main_v0 (ix2 (token t r) k) := by
  unfold token; blk_ext [iblk, idx0 t]
theorem read1 (c : Dev nD) (t : Fin cfg0.N) (k : Fin 1024) : iblk m c 1 t (ix2 0 k) = V m c main_v15 (ix2 0 k) := by
  blk_ext [iblk, idx1 t]
theorem read2 (c : Dev nD) (t : Fin cfg0.N) (k : Fin 1024) (j : Fin 3088) : iblk m c 2 t (ix2 k j) = V m c main_v17 (ix2 k j) := by
  blk_ext [iblk, idx2 t]
theorem read3 (c : Dev nD) (t : Fin cfg0.N) (k : Fin 1024) (j : Fin 512) : iblk m c 3 t (ix2 k j) = V m c main_v20 (ix2 k j) := by
  blk_ext [iblk, idx3 t]
theorem read4 (c : Dev nD) (t : Fin cfg0.N) (k : Fin 1024) (j : Fin 128) : iblk m c 4 t (ix2 k j) = V m c main_v4 (ix2 k j) := by
  blk_ext [iblk, idx4 t]
theorem read5 (c : Dev nD) (t : Fin cfg0.N) (k : Fin 128) (j : Fin 256) : iblk m c 5 t (ix2 k j) = V m c main_v7 (ix2 k j) := by
  blk_ext [iblk, idx5 t]
theorem read6 (c : Dev nD) (t : Fin cfg0.N) (j : Fin 256) : iblk m c 6 t (ix2 0 j) = V m c main_v22 (ix2 0 j) := by
  blk_ext [iblk, idx6 t]
theorem read7 (c : Dev nD) (t : Fin cfg0.N) (r : Fin 32) (k : Fin 1024) : iblk m c 7 t (ix2 r k) = V m c main_v8 (ix2 (rowAt t r) k) := by
  unfold rowAt; blk_ext [iblk, idx7 t]
theorem read8 (c : Dev nD) (t : Fin cfg0.N) (r : Fin 32) (k : Fin 1024) : iblk m c 8 t (ix2 r k) = V m c main_v9 (ix2 (rowAt t r) k) := by
  unfold rowAt; blk_ext [iblk, idx8 t]
theorem read9 (c : Dev nD) (t : Fin cfg0.N) (r : Fin 32) (k : Fin 2048) : iblk m c 9 t (ix2 r k) = V m c main_v10 (ix2 (rowAt t r) k) := by
  unfold rowAt; blk_ext [iblk, idx9 t]
theorem read10 (c : Dev nD) (t : Fin cfg0.N) (r : Fin 32) (k : Fin 1024) : iblk m c 10 t (ix2 r k) = V m c main_v11 (ix2 (rowAt t r) k) := by
  unfold rowAt; blk_ext [iblk, idx10 t]
theorem read11 (c : Dev nD) (t : Fin cfg0.N) (r : Fin 32) (k : Fin 4096) : iblk m c 11 t (ix2 r k) = V m c main_v12 (ix2 (rowAt t r) k) := by
  unfold rowAt; blk_ext [iblk, idx11 t]
theorem read12 (c : Dev nD) (t : Fin cfg0.N) (r : Fin 128) (k : Fin 1024) : iblk m c 12 t (ix2 r k) = V m c main_v13 (ix2 (rowAt4 t r) k) := by
  unfold rowAt4; blk_ext [iblk, idx12 t]

/-- A block's normalised row is its token's. -/
theorem row_eq (c : Dev nD) (t : Fin cfg0.N) (r : Fin 1024) : row (iblk m c 0 t) (iblk m c 1 t) r = hrow (m ((c : Thread nD τ).loc main_arg0)) (m ((c : Thread nD τ).loc main_arg1)) (token t r) := by
  unfold row hrow
  congr 1
  · funext k; exact (read0 m c t r k).trans (host0 m c (token t r) k)
  · funext k; exact (read1 m c t k).trans (host15 m c k)

/-- The block of the projection's columns is all of them. -/
theorem cols_eq (c : Dev nD) (t : Fin cfg0.N) : (fun k j => iblk m c 2 t (ix2 k j)) = cols (m ((c : Thread nD τ).loc main_arg2)) := by
  funext k j; exact (read2 m c t k j).trans (host17 m c k j)

/-- The output gate's columns are the projection's last 512. -/
theorem rg_eq (c : Dev nD) (t : Fin cfg0.N) : (fun k (j : Fin 512) => iblk m c 3 t (ix2 k j)) = fun k j => cols (m ((c : Thread nD τ).loc main_arg2)) k ⟨2576 + j.val, by omega⟩ := by
  funext k j; exact (read3 m c t k j).trans (host20 m c k j)

/-- The forget gate's padded columns. -/
theorem glr_eq (c : Dev nD) (t : Fin cfg0.N) : (fun k (q : Fin 128) => iblk m c 4 t (ix2 k q)) = fun k q => if h : q.val < 16 then cols (m ((c : Thread nD τ).loc main_arg2)) k ⟨2560 + q.val, by omega⟩ else 0 := by
  funext k j; exact (read4 m c t k j).trans (host4 m c k j)

/-- The forget gate's padded matrix. -/
theorem gu_eq (c : Dev nD) (t : Fin cfg0.N) : (fun (q : Fin 128) (j : Fin 256) => iblk m c 5 t (ix2 q j)) = fun q j => if h : q.val < 16 then (fun (q : Fin 16) j => (m ((c : Thread nD τ).loc main_arg3)) (ix3 0 q j)) ⟨q.val, h⟩ j else (0 : EReal) := by
  funext k j; exact (read5 m c t k j).trans (host7 m c k j)

theorem place13 (t : Fin cfg0.N) (r : Fin 1024) (d : Fin 1024) : (((cfg0.win 13).blk t).view.emb (ix2 r d)) = ix2 (token t r) d := by
  unfold token; blk_ext [idx13 t]

theorem arr13 (c : Dev nD) : (dats m 0 c).arrAt 13 cfg0.N = vQk (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  obtain ⟨r, d, rfl⟩ : ∃ (r : Fin 1024) (d : Fin 1024), y = ix2 r d := ⟨y 0, y 1, eq_ix2 y⟩
  refine ((out0_13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vQk (m ((c : Thread nD τ).loc main_arg0)) (m ((c : Thread nD τ).loc main_arg1)) (m ((c : Thread nD τ).loc main_arg2))) (place13 t r d)).symm
  unfold vQk
  rw [row_eq, cols_eq]
  rfl

theorem place15 (t : Fin cfg0.N) (r : Fin 1024) (d : Fin 256) : (((cfg0.win 15).blk t).view.emb (ix2 r d)) = ix2 (token t r) d := by
  unfold token; blk_ext [idx15 t]

theorem arr15 (c : Dev nD) : (dats m 0 c).arrAt 15 cfg0.N = vQg (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  obtain ⟨r, d, rfl⟩ : ∃ (r : Fin 1024) (d : Fin 256), y = ix2 r d := ⟨y 0, y 1, eq_ix2 y⟩
  refine ((out0_15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vQg (m ((c : Thread nD τ).loc main_arg0)) (m ((c : Thread nD τ).loc main_arg1)) (m ((c : Thread nD τ).loc main_arg2))) (place15 t r d)).symm
  unfold vQg
  rw [row_eq, cols_eq]
  rfl

theorem place16 (t : Fin cfg0.N) (r : Fin 1024) (d : Fin 256) : (((cfg0.win 16).blk t).view.emb (ix2 r d)) = ix2 (token t r) d := by
  unfold token; blk_ext [idx16 t]

theorem arr16 (c : Dev nD) : (dats m 0 c).arrAt 16 cfg0.N = vKg (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  obtain ⟨r, d, rfl⟩ : ∃ (r : Fin 1024) (d : Fin 256), y = ix2 r d := ⟨y 0, y 1, eq_ix2 y⟩
  refine ((out0_16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vKg (m ((c : Thread nD τ).loc main_arg0)) (m ((c : Thread nD τ).loc main_arg1)) (m ((c : Thread nD τ).loc main_arg2))) (place16 t r d)).symm
  unfold vKg
  rw [row_eq, cols_eq]
  rfl

theorem place18 (t : Fin cfg0.N) (r : Fin 1024) (d : Fin 512) : (((cfg0.win 18).blk t).view.emb (ix2 r d)) = ix2 (token t r) d := by
  unfold token; blk_ext [idx18 t]

theorem arr18 (c : Dev nD) : (dats m 0 c).arrAt 18 cfg0.N = vVg (m ((c : Thread nD τ).loc main_arg0)) (m ((c : Thread nD τ).loc main_arg1)) (m ((c : Thread nD τ).loc main_arg2)) := by
  refine (dats m 0 c).arrAt_eq_of_covers 18 _ (by decide +kernel) fun t hf y => ?_
  blk_simp
  rw [after0_18]
  obtain ⟨r, d, rfl⟩ : ∃ (r : Fin 1024) (d : Fin 512), y = ix2 r d := ⟨y 0, y 1, eq_ix2 y⟩
  refine ((out0_18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vVg (m ((c : Thread nD τ).loc main_arg0)) (m ((c : Thread nD τ).loc main_arg1)) (m ((c : Thread nD τ).loc main_arg2))) (place18 t r d)).symm
  unfold vVg
  rw [row_eq, cols_eq]
  rfl

theorem place14 (t : Fin cfg0.N) (r : Fin 512) (d : Fin 1024) : (((cfg0.win 14).blk t).view.emb (ix2 r d)) = ix2 r (token t d) := by
  unfold token; blk_ext [idx14 t]

theorem arr14 (c : Dev nD) : (dats m 0 c).arrAt 14 cfg0.N = vVt (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14]
  obtain ⟨r, d, rfl⟩ : ∃ (r : Fin 512) (d : Fin 1024), y = ix2 r d := ⟨y 0, y 1, eq_ix2 y⟩
  refine ((out0_14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vVt (m ((c : Thread nD τ).loc main_arg0)) (m ((c : Thread nD τ).loc main_arg1)) (m ((c : Thread nD τ).loc main_arg2))) (place14 t r d)).symm
  unfold vVt
  rw [row_eq, cols_eq]
  rfl

theorem place19 (t : Fin cfg0.N) (r : Fin 1024) (d : Fin 512) : (((cfg0.win 19).blk t).view.emb (ix2 r d)) = ix2 (token t r) d := by
  unfold token; blk_ext [idx19 t]

theorem arr19 (c : Dev nD) : (dats m 0 c).arrAt 19 cfg0.N = vRg (m ((c : Thread nD τ).loc main_arg0)) (m ((c : Thread nD τ).loc main_arg1)) (m ((c : Thread nD τ).loc main_arg2)) := by
  refine (dats m 0 c).arrAt_eq_of_covers 19 _ (by decide +kernel) fun t hf y => ?_
  blk_simp
  rw [after0_19]
  obtain ⟨r, d, rfl⟩ : ∃ (r : Fin 1024) (d : Fin 512), y = ix2 r d := ⟨y 0, y 1, eq_ix2 y⟩
  refine ((out0_19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vRg (m ((c : Thread nD τ).loc main_arg0)) (m ((c : Thread nD τ).loc main_arg1)) (m ((c : Thread nD τ).loc main_arg2))) (place19 t r d)).symm
  unfold vRg
  rw [row_eq, rg_eq]
  rfl

theorem place17 (t : Fin cfg0.N) (r : Fin 1024) (d : Fin 256) : (((cfg0.win 17).blk t).view.emb (ix2 r d)) = ix2 (token t r) d := by
  unfold token; blk_ext [idx17 t]

theorem arr17 (c : Dev nD) : (dats m 0 c).arrAt 17 cfg0.N = vLa (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 17 _ (by decide +kernel) fun t hf y => ?_
  blk_simp
  rw [after0_17]
  obtain ⟨r, d, rfl⟩ : ∃ (r : Fin 1024) (d : Fin 256), y = ix2 r d := ⟨y 0, y 1, eq_ix2 y⟩
  refine ((out0_17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vLa (m ((c : Thread nD τ).loc main_arg0)) (m ((c : Thread nD τ).loc main_arg1)) (m ((c : Thread nD τ).loc main_arg2)) (m ((c : Thread nD τ).loc main_arg3)) (m ((c : Thread nD τ).loc main_arg4))) (place17 t r d)).symm
  unfold vLa gate
  rw [row_eq, glr_eq, gu_eq]
  exact congrArg logGateK (congrArg₂ (· + ·) (gate_pad _ _ (fun q j => (m ((c : Thread nD τ).loc main_arg3)) (ix3 0 q j)) d) ((read6 m c t d).trans (host22 m c d)))

theorem place20 (t : Fin cfg0.N) (r : Fin 32) (d : Fin 1024) : (((cfg0.win 20).blk t).view.emb (ix2 r d)) = ix2 (rowAt t r) d := by
  unfold rowAt; blk_ext [idx20 t]

theorem arr20 (c : Dev nD) : (dats m 0 c).arrAt 20 cfg0.N = vMat (m ((c : Thread nD τ).loc main_arg5)) := by
  refine (dats m 0 c).arrAt_eq_of_covers 20 _ (by decide +kernel) fun t hf y => ?_
  blk_simp
  rw [after0_20]
  obtain ⟨r, d, rfl⟩ : ∃ (r : Fin 32) (d : Fin 1024), y = ix2 r d := ⟨y 0, y 1, eq_ix2 y⟩
  refine ((out0_20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vMat (m ((c : Thread nD τ).loc main_arg5))) (place20 t r d)).symm
  exact (read7 m c t r d).trans (host8 m c (rowAt t r) d)

theorem place21 (t : Fin cfg0.N) (r : Fin 32) (d : Fin 1024) : (((cfg0.win 21).blk t).view.emb (ix2 r d)) = ix2 (rowAt t r) d := by
  unfold rowAt; blk_ext [idx21 t]

theorem arr21 (c : Dev nD) : (dats m 0 c).arrAt 21 cfg0.N = vMat (m ((c : Thread nD τ).loc main_arg6)) := by
  refine (dats m 0 c).arrAt_eq_of_covers 21 _ (by decide +kernel) fun t hf y => ?_
  blk_simp
  rw [after0_21]
  obtain ⟨r, d, rfl⟩ : ∃ (r : Fin 32) (d : Fin 1024), y = ix2 r d := ⟨y 0, y 1, eq_ix2 y⟩
  refine ((out0_21_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vMat (m ((c : Thread nD τ).loc main_arg6))) (place21 t r d)).symm
  exact (read8 m c t r d).trans (host9 m c (rowAt t r) d)

theorem place22 (t : Fin cfg0.N) (r : Fin 32) (d : Fin 2048) : (((cfg0.win 22).blk t).view.emb (ix2 r d)) = ix2 (rowAt t r) d := by
  unfold rowAt; blk_ext [idx22 t]

theorem arr22 (c : Dev nD) : (dats m 0 c).arrAt 22 cfg0.N = vMat (m ((c : Thread nD τ).loc main_arg7)) := by
  refine (dats m 0 c).arrAt_eq_of_covers 22 _ (by decide +kernel) fun t hf y => ?_
  blk_simp
  rw [after0_22]
  obtain ⟨r, d, rfl⟩ : ∃ (r : Fin 32) (d : Fin 2048), y = ix2 r d := ⟨y 0, y 1, eq_ix2 y⟩
  refine ((out0_22_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vMat (m ((c : Thread nD τ).loc main_arg7))) (place22 t r d)).symm
  exact (read9 m c t r d).trans (host10 m c (rowAt t r) d)

theorem place23 (t : Fin cfg0.N) (r : Fin 32) (d : Fin 1024) : (((cfg0.win 23).blk t).view.emb (ix2 r d)) = ix2 (rowAt t r) d := by
  unfold rowAt; blk_ext [idx23 t]

theorem arr23 (c : Dev nD) : (dats m 0 c).arrAt 23 cfg0.N = vMat (m ((c : Thread nD τ).loc main_arg8)) := by
  refine (dats m 0 c).arrAt_eq_of_covers 23 _ (by decide +kernel) fun t hf y => ?_
  blk_simp
  rw [after0_23]
  obtain ⟨r, d, rfl⟩ : ∃ (r : Fin 32) (d : Fin 1024), y = ix2 r d := ⟨y 0, y 1, eq_ix2 y⟩
  refine ((out0_23_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vMat (m ((c : Thread nD τ).loc main_arg8))) (place23 t r d)).symm
  exact (read10 m c t r d).trans (host11 m c (rowAt t r) d)

theorem place24 (t : Fin cfg0.N) (r : Fin 32) (d : Fin 4096) : (((cfg0.win 24).blk t).view.emb (ix2 r d)) = ix2 (rowAt t r) d := by
  unfold rowAt; blk_ext [idx24 t]

theorem arr24 (c : Dev nD) : (dats m 0 c).arrAt 24 cfg0.N = vMat (m ((c : Thread nD τ).loc main_arg9)) := by
  refine (dats m 0 c).arrAt_eq_of_covers 24 _ (by decide +kernel) fun t hf y => ?_
  blk_simp
  rw [after0_24]
  obtain ⟨r, d, rfl⟩ : ∃ (r : Fin 32) (d : Fin 4096), y = ix2 r d := ⟨y 0, y 1, eq_ix2 y⟩
  refine ((out0_24_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vMat (m ((c : Thread nD τ).loc main_arg9))) (place24 t r d)).symm
  exact (read11 m c t r d).trans (host12 m c (rowAt t r) d)

theorem place25 (t : Fin cfg0.N) (r : Fin 128) (d : Fin 1024) : (((cfg0.win 25).blk t).view.emb (ix2 r d)) = ix2 (rowAt4 t r) d := by
  unfold rowAt4; blk_ext [idx25 t]

theorem arr25 (c : Dev nD) : (dats m 0 c).arrAt 25 cfg0.N = vMat (m ((c : Thread nD τ).loc main_arg10)) := by
  refine (dats m 0 c).arrAt_eq_of_covers 25 _ (by decide +kernel) fun t hf y => ?_
  blk_simp
  rw [after0_25]
  obtain ⟨r, d, rfl⟩ : ∃ (r : Fin 128) (d : Fin 1024), y = ix2 r d := ⟨y 0, y 1, eq_ix2 y⟩
  refine ((out0_25_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r d).trans ?_).trans (congrArg (vMat (m ((c : Thread nD τ).loc main_arg10))) (place25 t r d)).symm
  exact (read12 m c t r d).trans (host13 m c (rowAt4 t r) d)

end Cert.Kernel2Ideal.In

end
-- ==== Proof.In.Equation.lean ====
/- UNTRUSTED — each result of the reference, for any projection that is the tokens' normalised rows times the columns, is
   the array the kernel leaves. -/
module

public import proofs.«01_k».proof.Proof.In.Ref
public import proofs.«01_k».proof.Proof.In.Array
public import Idealize.ShloMosaic.PureOps.IdealRules

@[expose] public section

set_option maxRecDepth 16384

noncomputable section

namespace Cert.Reference2Ideal.In

open Cert.Reference2Ideal Cert.Reference2Ideal.Gen Idealize.ShloMosaic Idealize.ShloMosaic.TcCoe Cert.Rows
open Cert.Kernel2Ideal.In (vQk vVt vQg vKg vLa vVg vRg vMat hrow cols)

/-- The scale the kernel folds into its queries, at its exact value. -/
theorem qscale_value : Kernel2Ideal.In.qscale = (((Real.log 2)⁻¹ * (1 / 8) : ℝ) : EReal) :=
  IdealRules.named_const.ideal_named_scalar _ _ _ _ rfl

/-- A projection whose rows are the tokens' normalised rows times the columns. -/
def IsProj (p : FVec Ideal S16x2048x3088 .f32) (a0 : FVec Ideal S16x2048x1024 .f32) (a1 : FVec Ideal S1x1024 .f32) (a2 : FVec Ideal S1x1024x3088 .f32) : Prop :=
  ∀ g t j, p (ix3 g t j) = lin (rms (fun k => a0 (ix3 g t k)) fun k => a1 (ix2 0 k)) (fun k j => a2 (ix3 0 k j)) j

variable {p : FVec Ideal S16x2048x3088 .f32} {a0 : FVec Ideal S16x2048x1024 .f32} {a1 : FVec Ideal S1x1024 .f32} {a2 : FVec Ideal S1x1024x3088 .f32} (hp : IsProj p a0 a1 a2)

include hp

/-- The queries and keys. -/
theorem qk_eq : (truncf .bf16 (shapeCast _ (concatenate S16x2048x1024 2 [⟨S16x2048x512, (Host.divf (mulf (extractStridedSlice S16x2048x512 ![0, 0, 0] p slices_S16x2048x3088_S16x2048x512_0_0_0) (broadcastInDim S16x2048x512 ![] bcast_S_S16x2048x512 (constant S_ .f32 0x3E000000#32))) (broadcastInDim S16x2048x512 ![] bcast_S_S16x2048x512 (Host.log (constant S_ .f32 0x40000000#32))))⟩, ⟨S16x2048x512, (extractStridedSlice S16x2048x512 ![0, 0, 512] p slices_S16x2048x3088_S16x2048x512_0_0_512)⟩] concatenates_S16x2048x512_S16x2048x512_S16x2048x1024_d2) shapeCasts_S16x2048x1024_S32768x1024) bitsLt_bf16_f32 : FVec Ideal S32768x1024 .bf16) = vQk a0 a1 a2 := by
  funext i
  obtain ⟨r, j, rfl⟩ : ∃ (r : Fin 32768) (j : Fin 1024), i = ix2 r j := ⟨i 0, i 1, eq_ix2 i⟩
  refine (qk_apply p r j).trans ?_
  unfold vQk qkRow
  rw [qscale_value]
  show _ = if j.val < 512 then _ else _
  by_cases h : j.val < 512
  · rw [dif_pos h, if_pos h, qscale_eq, hp]
    rfl
  · rw [dif_neg h, if_neg h, hp]
    rfl

/-- The attention heads' values. -/
theorem vt_eq : (truncf .bf16 (transpose S512x32768 [1, 0] (shapeCast _ (extractStridedSlice S16x2048x512 ![0, 0, 1024] p slices_S16x2048x3088_S16x2048x512_0_0_1024) shapeCasts_S16x2048x512_S32768x512) transposes_S32768x512_S512x32768_1_0) bitsLt_bf16_f32 : FVec Ideal S512x32768 .bf16) = vVt a0 a1 a2 := by
  funext i
  obtain ⟨r, j, rfl⟩ : ∃ (r : Fin 32768) (j : Fin 512), i = ix2 j r := ⟨i 1, i 0, eq_ix2 i⟩
  exact (vt_apply p r j).trans (hp _ _ _)

/-- The gated heads' queries. -/
theorem qg_eq : (shapeCast _ (mulf (extractStridedSlice S16x2048x256 ![0, 0, 1536] p slices_S16x2048x3088_S16x2048x256_0_0_1536) (broadcastInDim S16x2048x256 ![] bcast_S_S16x2048x256 (constant S_ .f32 0x3E000000#32))) shapeCasts_S16x2048x256_S32768x256 : FVec Ideal S32768x256 .f32) = vQg a0 a1 a2 := by
  funext i
  obtain ⟨r, j, rfl⟩ : ∃ (r : Fin 32768) (j : Fin 256), i = ix2 r j := ⟨i 0, i 1, eq_ix2 i⟩
  refine (qg_apply p r j).trans ?_
  rw [hp]
  rfl

/-- The gated heads' keys. -/
theorem kg_eq : (shapeCast _ (extractStridedSlice S16x2048x256 ![0, 0, 1792] p slices_S16x2048x3088_S16x2048x256_0_0_1792) shapeCasts_S16x2048x256_S32768x256 : FVec Ideal S32768x256 .f32) = vKg a0 a1 a2 := by
  funext i
  obtain ⟨r, j, rfl⟩ : ∃ (r : Fin 32768) (j : Fin 256), i = ix2 r j := ⟨i 0, i 1, eq_ix2 i⟩
  exact (kg_apply p r j).trans (hp _ _ _)

/-- The gated heads' values. -/
theorem vg_eq : (truncf .bf16 (shapeCast _ (extractStridedSlice S16x2048x512 ![0, 0, 2048] p slices_S16x2048x3088_S16x2048x512_0_0_2048) shapeCasts_S16x2048x512_S32768x512) bitsLt_bf16_f32 : FVec Ideal S32768x512 .bf16) = vVg a0 a1 a2 := by
  funext i
  obtain ⟨r, j, rfl⟩ : ∃ (r : Fin 32768) (j : Fin 512), i = ix2 r j := ⟨i 0, i 1, eq_ix2 i⟩
  exact (vg_apply p r j).trans (hp _ _ _)

/-- The output gate. -/
theorem rg_eq : (shapeCast _ (extractStridedSlice S16x2048x512 ![0, 0, 2576] p slices_S16x2048x3088_S16x2048x512_0_0_2576) shapeCasts_S16x2048x512_S32768x512 : FVec Ideal S32768x512 .f32) = vRg a0 a1 a2 := by
  funext i
  obtain ⟨r, j, rfl⟩ : ∃ (r : Fin 32768) (j : Fin 512), i = ix2 r j := ⟨i 0, i 1, eq_ix2 i⟩
  exact (rg_apply p r j).trans (hp _ _ _)

/-- The logarithm of the forget gate. -/
theorem la_eq (u : FVec Ideal S1x16x256 .f32) (b : FVec Ideal S1x256 .f32) : (shapeCast _ (Host.divf (Host.negf (select (cmpf .une (subf (Host.negf (addf (Host.dotGeneral dot_S16x2048x16_S16x256_S16x2048x256_2_0_01_1_n_n none (extractStridedSlice S16x2048x16 ![0, 0, 2560] p slices_S16x2048x3088_S16x2048x16_0_0_2560) (shapeCast _ u shapeCasts_S1x16x256_S16x256)) (broadcastInDim S16x2048x256 ![0, 1, 2] bcast_S1x1x256_S16x2048x256_0_1_2 (broadcastInDim S1x1x256 ![2] bcast_S256_S1x1x256_2 (shapeCast _ b shapeCasts_S1x256_S256))))) (broadcastInDim S16x2048x256 ![] bcast_S_S16x2048x256 (constant S_ .f32 0x00000000#32))) (subf (Host.negf (addf (Host.dotGeneral dot_S16x2048x16_S16x256_S16x2048x256_2_0_01_1_n_n none (extractStridedSlice S16x2048x16 ![0, 0, 2560] p slices_S16x2048x3088_S16x2048x16_0_0_2560) (shapeCast _ u shapeCasts_S1x16x256_S16x256)) (broadcastInDim S16x2048x256 ![0, 1, 2] bcast_S1x1x256_S16x2048x256_0_1_2 (broadcastInDim S1x1x256 ![2] bcast_S256_S1x1x256_2 (shapeCast _ b shapeCasts_S1x256_S256))))) (broadcastInDim S16x2048x256 ![] bcast_S_S16x2048x256 (constant S_ .f32 0x00000000#32)))) (addf (Host.negf (addf (Host.dotGeneral dot_S16x2048x16_S16x256_S16x2048x256_2_0_01_1_n_n none (extractStridedSlice S16x2048x16 ![0, 0, 2560] p slices_S16x2048x3088_S16x2048x16_0_0_2560) (shapeCast _ u shapeCasts_S1x16x256_S16x256)) (broadcastInDim S16x2048x256 ![0, 1, 2] bcast_S1x1x256_S16x2048x256_0_1_2 (broadcastInDim S1x1x256 ![2] bcast_S256_S1x1x256_2 (shapeCast _ b shapeCasts_S1x256_S256))))) (broadcastInDim S16x2048x256 ![] bcast_S_S16x2048x256 (constant S_ .f32 0x00000000#32))) (addf (maximumf (Host.negf (addf (Host.dotGeneral dot_S16x2048x16_S16x256_S16x2048x256_2_0_01_1_n_n none (extractStridedSlice S16x2048x16 ![0, 0, 2560] p slices_S16x2048x3088_S16x2048x16_0_0_2560) (shapeCast _ u shapeCasts_S1x16x256_S16x256)) (broadcastInDim S16x2048x256 ![0, 1, 2] bcast_S1x1x256_S16x2048x256_0_1_2 (broadcastInDim S1x1x256 ![2] bcast_S256_S1x1x256_2 (shapeCast _ b shapeCasts_S1x256_S256))))) (broadcastInDim S16x2048x256 ![] bcast_S_S16x2048x256 (constant S_ .f32 0x00000000#32))) (Host.log1p (Host.exp (Host.negf (Host.absf (subf (Host.negf (addf (Host.dotGeneral dot_S16x2048x16_S16x256_S16x2048x256_2_0_01_1_n_n none (extractStridedSlice S16x2048x16 ![0, 0, 2560] p slices_S16x2048x3088_S16x2048x16_0_0_2560) (shapeCast _ u shapeCasts_S1x16x256_S16x256)) (broadcastInDim S16x2048x256 ![0, 1, 2] bcast_S1x1x256_S16x2048x256_0_1_2 (broadcastInDim S1x1x256 ![2] bcast_S256_S1x1x256_2 (shapeCast _ b shapeCasts_S1x256_S256))))) (broadcastInDim S16x2048x256 ![] bcast_S_S16x2048x256 (constant S_ .f32 0x00000000#32)))))))))) (broadcastInDim S16x2048x256 ![] bcast_S_S16x2048x256 (constant S_ .f32 0x41800000#32))) shapeCasts_S16x2048x256_S32768x256 : FVec Ideal S32768x256 .f32) = vLa a0 a1 a2 u b := by
  funext i
  obtain ⟨r, j, rfl⟩ : ∃ (r : Fin 32768) (j : Fin 256), i = ix2 r j := ⟨i 0, i 1, eq_ix2 i⟩
  refine (la_apply _ r j).trans ?_
  rw [gate_apply, ← logGate_eq]
  refine congrArg logGateK (congrArg₂ (· + ·) ?_ rfl)
  exact congrArg (fun h => lin h (fun q j => u (ix3 0 q j)) j) (funext fun q => hp _ _ _)

omit hp

/-- Argument 5 without its unit axis. -/
theorem mat5_eq (a : FVec Ideal S1x1024x1024 .f32) : (truncf .bf16 (shapeCast _ a shapeCasts_S1x1024x1024_S1024x1024) bitsLt_bf16_f32 : FVec Ideal S1024x1024 .bf16) = vMat a := by
  funext i
  obtain ⟨r, j, rfl⟩ : ∃ (r : Fin 1024) (j : Fin 1024), i = ix2 r j := ⟨i 0, i 1, eq_ix2 i⟩
  show _ = a (ix3 0 r j)
  pointwise

/-- Argument 6 without its unit axis. -/
theorem mat6_eq (a : FVec Ideal S1x1024x1024 .f32) : (truncf .bf16 (shapeCast _ a shapeCasts_S1x1024x1024_S1024x1024) bitsLt_bf16_f32 : FVec Ideal S1024x1024 .bf16) = vMat a := by
  funext i
  obtain ⟨r, j, rfl⟩ : ∃ (r : Fin 1024) (j : Fin 1024), i = ix2 r j := ⟨i 0, i 1, eq_ix2 i⟩
  show _ = a (ix3 0 r j)
  pointwise

/-- Argument 7 without its unit axis. -/
theorem mat7_eq (a : FVec Ideal S1x1024x2048 .f32) : (truncf .bf16 (shapeCast _ a shapeCasts_S1x1024x2048_S1024x2048) bitsLt_bf16_f32 : FVec Ideal S1024x2048 .bf16) = vMat a := by
  funext i
  obtain ⟨r, j, rfl⟩ : ∃ (r : Fin 1024) (j : Fin 2048), i = ix2 r j := ⟨i 0, i 1, eq_ix2 i⟩
  show _ = a (ix3 0 r j)
  pointwise

/-- Argument 8 without its unit axis. -/
theorem mat8_eq (a : FVec Ideal S1x1024x1024 .f32) : (truncf .bf16 (shapeCast _ a shapeCasts_S1x1024x1024_S1024x1024) bitsLt_bf16_f32 : FVec Ideal S1024x1024 .bf16) = vMat a := by
  funext i
  obtain ⟨r, j, rfl⟩ : ∃ (r : Fin 1024) (j : Fin 1024), i = ix2 r j := ⟨i 0, i 1, eq_ix2 i⟩
  show _ = a (ix3 0 r j)
  pointwise

/-- Argument 9 without its unit axis. -/
theorem mat9_eq (a : FVec Ideal S1x1024x4096 .f32) : (truncf .bf16 (shapeCast _ a shapeCasts_S1x1024x4096_S1024x4096) bitsLt_bf16_f32 : FVec Ideal S1024x4096 .bf16) = vMat a := by
  funext i
  obtain ⟨r, j, rfl⟩ : ∃ (r : Fin 1024) (j : Fin 4096), i = ix2 r j := ⟨i 0, i 1, eq_ix2 i⟩
  show _ = a (ix3 0 r j)
  pointwise

/-- Argument 10 without its unit axis. -/
theorem mat10_eq (a : FVec Ideal S1x4096x1024 .f32) : (truncf .bf16 (shapeCast _ a shapeCasts_S1x4096x1024_S4096x1024) bitsLt_bf16_f32 : FVec Ideal S4096x1024 .bf16) = vMat a := by
  funext i
  obtain ⟨r, j, rfl⟩ : ∃ (r : Fin 4096) (j : Fin 1024), i = ix2 r j := ⟨i 0, i 1, eq_ix2 i⟩
  show _ = a (ix3 0 r j)
  pointwise

end Cert.Reference2Ideal.In

end
-- ==== Proof.In.Claims.lean ====
/- UNTRUSTED — the input projection's claims: its run with the thirteen results as functions of the arguments, and the
   equality of those with the reference's. -/
module

public import proofs.«01_k».proof.Defs
public import proofs.«01_k».proof.Proof.In.FrameIdeal
public import proofs.«01_k».proof.Proof.In.Equation
public import Idealize.ShloMosaic.Lib.Quiescent

@[expose] public section

set_option maxRecDepth 16384

noncomputable section

namespace Cert.Kernel2Ideal.In

open Idealize.ShloMosaic Idealize.ShloMosaic.TcCoe Idealize.SL.Sem
open Cert.Kernel2Ideal Cert.Kernel2Ideal.Gen

set_option maxHeartbeats 4000000 in
/-- The idealized projection's run: the thirteen results are the functions of In/Array.lean of the arguments, which end
    unchanged. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23_0) = vQk (m ((c.tc : Thread nD τ).loc main_arg0)) (m ((c.tc : Thread nD τ).loc main_arg1)) (m ((c.tc : Thread nD τ).loc main_arg2))
      ∧ r.2.mem ((c.tc : Thread nD τ).loc main_v23_1) = vVt (m ((c.tc : Thread nD τ).loc main_arg0)) (m ((c.tc : Thread nD τ).loc main_arg1)) (m ((c.tc : Thread nD τ).loc main_arg2))
      ∧ r.2.mem ((c.tc : Thread nD τ).loc main_v23_2) = vQg (m ((c.tc : Thread nD τ).loc main_arg0)) (m ((c.tc : Thread nD τ).loc main_arg1)) (m ((c.tc : Thread nD τ).loc main_arg2))
      ∧ r.2.mem ((c.tc : Thread nD τ).loc main_v23_3) = vKg (m ((c.tc : Thread nD τ).loc main_arg0)) (m ((c.tc : Thread nD τ).loc main_arg1)) (m ((c.tc : Thread nD τ).loc main_arg2))
      ∧ r.2.mem ((c.tc : Thread nD τ).loc main_v23_4) = vLa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v23_5) = vVg (m ((c.tc : Thread nD τ).loc main_arg0)) (m ((c.tc : Thread nD τ).loc main_arg1)) (m ((c.tc : Thread nD τ).loc main_arg2))
      ∧ r.2.mem ((c.tc : Thread nD τ).loc main_v23_6) = vRg (m ((c.tc : Thread nD τ).loc main_arg0)) (m ((c.tc : Thread nD τ).loc main_arg1)) (m ((c.tc : Thread nD τ).loc main_arg2))
      ∧ r.2.mem ((c.tc : Thread nD τ).loc main_v23_7) = vMat (m ((c.tc : Thread nD τ).loc main_arg5))
      ∧ r.2.mem ((c.tc : Thread nD τ).loc main_v23_8) = vMat (m ((c.tc : Thread nD τ).loc main_arg6))
      ∧ r.2.mem ((c.tc : Thread nD τ).loc main_v23_9) = vMat (m ((c.tc : Thread nD τ).loc main_arg7))
      ∧ r.2.mem ((c.tc : Thread nD τ).loc main_v23_10) = vMat (m ((c.tc : Thread nD τ).loc main_arg8))
      ∧ r.2.mem ((c.tc : Thread nD τ).loc main_v23_11) = vMat (m ((c.tc : Thread nD τ).loc main_arg9))
      ∧ r.2.mem ((c.tc : Thread nD τ).loc main_v23_12) = vMat (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).1 13).trans (arr13 m c),
      ((h c).1 14).trans (arr14 m c),
      ((h c).1 15).trans (arr15 m c),
      ((h c).1 16).trans (arr16 m c),
      ((h c).1 17).trans (arr17 m c),
      ((h c).1 18).trans (arr18 m c),
      ((h c).1 19).trans (arr19 m c),
      ((h c).1 20).trans (arr20 m c),
      ((h c).1 21).trans (arr21 m c),
      ((h c).1 22).trans (arr22 m c),
      ((h c).1 23).trans (arr23 m c),
      ((h c).1 24).trans (arr24 m c),
      ((h c).1 25).trans (arr25 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.Kernel2Ideal.In

namespace Cert.Reference2Ideal.In

open Idealize.ShloMosaic Idealize.ShloMosaic.TcCoe Idealize.SL.Sem
open Cert.Kernel2Ideal.In (vQk vVt vQg vKg vLa vVg vRg vMat)

/-- The projection's reference runs and leaves its arguments alone, with every counter at zero. -/
theorem frame : quiescent_Reference2Ideal := fun m ρ _ =>
  (θ_run Reference2Ideal.defs _ _).mono
    (fun r h => ⟨fun c => (h c).2.2.2.2.2.2.2.2.2.2.2.2.2, Idealize.ShloMosaic.sem_eq_zero_of_no_sems (by decide) r.2⟩)
    (Reference2Ideal.Value.run (F := Ideal) m ρ)

section
open Cert.Reference2Ideal Cert.Reference2Ideal.Gen

/-- The reference's run: the thirteen results are the same functions of its own arguments. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = vQk (m ((c.tc : Thread nD τ).loc main_arg0)) (m ((c.tc : Thread nD τ).loc main_arg1)) (m ((c.tc : Thread nD τ).loc main_arg2))
      ∧ r.2.mem ((c.tc : Thread nD τ).loc main_v45) = vVt (m ((c.tc : Thread nD τ).loc main_arg0)) (m ((c.tc : Thread nD τ).loc main_arg1)) (m ((c.tc : Thread nD τ).loc main_arg2))
      ∧ r.2.mem ((c.tc : Thread nD τ).loc main_v46) = vQg (m ((c.tc : Thread nD τ).loc main_arg0)) (m ((c.tc : Thread nD τ).loc main_arg1)) (m ((c.tc : Thread nD τ).loc main_arg2))
      ∧ r.2.mem ((c.tc : Thread nD τ).loc main_v47) = vKg (m ((c.tc : Thread nD τ).loc main_arg0)) (m ((c.tc : Thread nD τ).loc main_arg1)) (m ((c.tc : Thread nD τ).loc main_arg2))
      ∧ r.2.mem ((c.tc : Thread nD τ).loc main_v48) = vLa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v50) = vVg (m ((c.tc : Thread nD τ).loc main_arg0)) (m ((c.tc : Thread nD τ).loc main_arg1)) (m ((c.tc : Thread nD τ).loc main_arg2))
      ∧ r.2.mem ((c.tc : Thread nD τ).loc main_v51) = vRg (m ((c.tc : Thread nD τ).loc main_arg0)) (m ((c.tc : Thread nD τ).loc main_arg1)) (m ((c.tc : Thread nD τ).loc main_arg2))
      ∧ r.2.mem ((c.tc : Thread nD τ).loc main_v53) = vMat (m ((c.tc : Thread nD τ).loc main_arg5))
      ∧ r.2.mem ((c.tc : Thread nD τ).loc main_v55) = vMat (m ((c.tc : Thread nD τ).loc main_arg6))
      ∧ r.2.mem ((c.tc : Thread nD τ).loc main_v57) = vMat (m ((c.tc : Thread nD τ).loc main_arg7))
      ∧ r.2.mem ((c.tc : Thread nD τ).loc main_v59) = vMat (m ((c.tc : Thread nD τ).loc main_arg8))
      ∧ r.2.mem ((c.tc : Thread nD τ).loc main_v61) = vMat (m ((c.tc : Thread nD τ).loc main_arg9))
      ∧ r.2.mem ((c.tc : Thread nD τ).loc main_v63) = vMat (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => by
    obtain ⟨h0, h1, h2, h3, h4, h5, h6, h7, h8, h9, h10, h11, h12, hr⟩ := h c
    exact ⟨h0.trans (qk_eq (proj_apply _ _ _)),
      h1.trans (vt_eq (proj_apply _ _ _)),
      h2.trans (qg_eq (proj_apply _ _ _)),
      h3.trans (kg_eq (proj_apply _ _ _)),
      h4.trans (la_eq (proj_apply _ _ _) _ _),
      h5.trans (vg_eq (proj_apply _ _ _)),
      h6.trans (rg_eq (proj_apply _ _ _)),
      h7.trans (mat5_eq _),
      h8.trans (mat6_eq _),
      h9.trans (mat7_eq _),
      h10.trans (mat8_eq _),
      h11.trans (mat9_eq _),
      h12.trans (mat10_eq _), hr⟩)
    (Value.run (F := Ideal) m ρ)

end

/-- The idealized projection and its reference end with the same thirteen results. -/
theorem equal_results : algebraic_Kernel2Ideal_Reference2Ideal := by
  intro m ρ m' ρ' _ hagree
  refine ⟨_, _, _, _, _, _, _, _, _, _, _, _, _, Kernel2Ideal.In.ends m ρ, ?_⟩
  refine (θ_run Reference2Ideal.defs _ _).mono (fun _ h c => ?_) (ends m' ρ')
  obtain ⟨a0, a1, a2, a3, a4, a5, a6, a7, a8, a9, a10⟩ := hagree c
  obtain ⟨h0, h1, h2, h3, h4, h5, h6, h7, h8, h9, h10, h11, h12, hr⟩ := h c
  exact ⟨h0.trans (by rw [a0, a1, a2]),
    h1.trans (by rw [a0, a1, a2]),
    h2.trans (by rw [a0, a1, a2]),
    h3.trans (by rw [a0, a1, a2]),
    h4.trans (by rw [a0, a1, a2, a3, a4]),
    h5.trans (by rw [a0, a1, a2]),
    h6.trans (by rw [a0, a1, a2]),
    h7.trans (by rw [a5]),
    h8.trans (by rw [a6]),
    h9.trans (by rw [a7]),
    h10.trans (by rw [a8]),
    h11.trans (by rw [a9]),
    h12.trans (by rw [a10]), hr⟩

end Cert.Reference2Ideal.In

end
-- ==== Proof.lean ====
/- UNTRUSTED — the assembly: the programs run and leave their arguments alone, each named scale's exact value is near the
   rounded literal it replaces, and each idealized kernel ends with the same results as its reference. -/
module

public import proofs.«01_k».proof.Defs
public import proofs.«01_k».proof.Proof.Gen.Kernel.Frame
public import proofs.«01_k».proof.Proof.Run
public import proofs.«01_k».proof.Proof.Equation
public import proofs.«01_k».proof.Proof.In.FrameBits
public import proofs.«01_k».proof.Proof.In.Claims
public import Idealize.ShloMosaic.Lib.Quiescent

@[expose] public section

noncomputable section

namespace Cert.Proof

open Idealize.ShloMosaic Idealize.ShloMosaic.TcCoe Idealize.SL.Sem

section
open KernelIdeal KernelIdeal.Gen

/-- The idealized kernel's run: its result array is `Post.value` of its arguments, which end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v21) = Post.value (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)) (m ((c.tc : Thread KernelIdeal.nD KernelIdeal.τ).loc KernelIdeal.main_arg12)) (m ((c.tc : Thread KernelIdeal.nD KernelIdeal.τ).loc KernelIdeal.main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_v21 (by decide))).trans (Post.result m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c),
      (h c _ (mem_uc main_arg11 (by decide))).trans (W4_main_arg11 m ρ c),
      (h c _ (mem_uc main_arg12 (by decide))).trans (W4_main_arg12 m ρ c),
      (h c _ (mem_uc main_arg13 (by decide))).trans (W4_main_arg13 m ρ c)⟩)
    (Run.ends m ρ)

end

/-- The reference runs and leaves its arguments alone, with every counter at zero. -/
theorem reference_frame : quiescent_ReferenceIdeal := fun m ρ _ =>
  (θ_run ReferenceIdeal.defs _ _).mono
    (fun r h => ⟨fun c => (h c).2, Idealize.ShloMosaic.sem_eq_zero_of_no_sems (by decide) r.2⟩)
    (ReferenceIdeal.Value.run (F := Ideal) m ρ)

/-- Both idealized programs end with the same result. -/
theorem equal_results : algebraic_KernelIdeal_ReferenceIdeal := by
  intro m ρ m' ρ' _ hagree
  refine ⟨_, kernel_run m ρ, ?_⟩
  refine (θ_run ReferenceIdeal.defs _ _).mono (fun _ h c => ⟨(h c).1.trans ?_, (h c).2⟩) (ReferenceIdeal.Value.run (F := Ideal) m' ρ')
  obtain ⟨h0, h1, h2, h3, h4, h5, h6, h7, h8, h9, h10, h11, h12, h13⟩ := hagree c
  refine (Equation.reference_eq (StableHlo.launchContents m' c) _ fun r d => ReferenceIdeal.Value.last_apply _ _ r d).trans ?_
  rw [← h0, ← h1, ← h2, ← h3, ← h4, ← h5, ← h6, ← h7, ← h8, ← h9, ← h10, ← h11, ← h12, ← h13]

/-- The ten claims: for each of the two programs the three frames, the named scale's value near its literal, and the equality of
    the idealized results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, Reference2Ideal.In.frame,
  IdealRules.named_const.statement Cert.KernelIdeal.κ "scale" .f32 0x3DB8AA3B#32 (((Real.log 2)⁻¹ * (1 / 16) : ℝ) : EReal) rfl,
  equal_results,
  IdealRules.named_const.statement Cert.Kernel2Ideal.κ "qscale" .f32 0x3E38AA3B#32 (((Real.log 2)⁻¹ * (1 / 8) : ℝ) : EReal) rfl,
  Reference2Ideal.In.equal_results⟩

end Cert.Proof

end
